-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_nonzero_rows [hPre_finite_and_nonzero_rows : Cert.Pre_finite_and_nonzero_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_nonzero_rows [hPre_finite_and_nonzero_rows : Cert.Pre_finite_and_nonzero_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_nonzero_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_nonzero_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_nonzero_rows [hKernelIdeal : Cert.KernelIdeal.Facts] [hPre_finite_and_nonzero_rows : Cert.Pre_finite_and_nonzero_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_nonzero_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_nonzero_rows [hReferenceIdeal : Cert.ReferenceIdeal.Facts] [hPre_finite_and_nonzero_rows : Cert.Pre_finite_and_nonzero_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_nonzero_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_nonzero_rows [hKernelIdeal : Cert.KernelIdeal.Facts] [hReferenceIdeal : Cert.ReferenceIdeal.Facts] [hPre_finite_and_nonzero_rows : Cert.Pre_finite_and_nonzero_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_nonzero_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_nonzero_rows : Cert.Pre_finite_and_nonzero_rows.Facts),
    quiescent_Kernel (hKernel := hKernel)
    ∧ quiescent_KernelIdeal (hKernelIdeal := hKernelIdeal)
    ∧ quiescent_KernelIdeal_pre_finite_and_nonzero_rows (hKernelIdeal := hKernelIdeal) (hPre_finite_and_nonzero_rows := hPre_finite_and_nonzero_rows)
    ∧ quiescent_ReferenceIdeal (hReferenceIdeal := hReferenceIdeal)
    ∧ quiescent_ReferenceIdeal_pre_finite_and_nonzero_rows (hReferenceIdeal := hReferenceIdeal) (hPre_finite_and_nonzero_rows := hPre_finite_and_nonzero_rows)
    ∧ preserves_Kernel_KernelIdeal
    ∧ algebraic_KernelIdeal_ReferenceIdeal_pre_finite_and_nonzero_rows (hKernelIdeal := hKernelIdeal) (hReferenceIdeal := hReferenceIdeal) (hPre_finite_and_nonzero_rows := hPre_finite_and_nonzero_rows)
-- ==== Pre_finite_and_nonzero_rows.lean ====
abbrev S2x128x7168 : Shape := ⟨3, ![2, 128, 7168]⟩
abbrev S24x7168 : Shape := ⟨2, ![24, 7168]⟩
abbrev S3584x18432 : Shape := ⟨2, ![3584, 18432]⟩
abbrev S56x18432 : Shape := ⟨2, ![56, 18432]⟩
abbrev S_ : Shape := ⟨0, ![]⟩
abbrev S24 : Shape := ⟨1, ![24]⟩

class Facts : Prop where
  bcast_S_S2x128x7168 : S_.BroadcastsInDim S2x128x7168 (![] : Fin 0 → Fin S2x128x7168.rank)
  reducesTo_S24x7168_S24_d1 : S24x7168.ReducesTo [1] S24
  h_S_ : 0 < S_.numel
  bcast_S_S24 : S_.BroadcastsInDim S24 (![] : Fin 0 → Fin S24.rank)

variable [Facts]

def fn {F : FTy → Type} [FloatOps F] (main_arg0 : FVec F S2x128x7168 .bf16) (main_arg1 : FVec F S24x7168 .f32) (main_arg2 : IVec S3584x18432 8) (main_arg3 : FVec F S56x18432 .bf16) (main_arg4 : IVec S56x18432 8) : IVec S2x128x7168 1 × IVec S24 1 :=
  let main_v0 : FVec F S2x128x7168 .bf16 := Host.absf main_arg0
  let main_cst : FVec F S_ .bf16 := constant S_ .bf16 0x7F80#16
  let main_v1 : FVec F S2x128x7168 .bf16 := broadcastInDim S2x128x7168 ![] bcast_S_S2x128x7168 main_cst
  let main_v2 : IVec S2x128x7168 1 := cmpf .olt main_v0 main_v1
  let main_v3 : FVec F S24x7168 .f32 := mulf main_arg1 main_arg1
  let main_cst_0 : FVec F S_ .f32 := constant S_ .f32 0x00000000#32
  let main_v4 : FVec F S24 .f32 := (fun x v => Host.reduceAdd x v reducesTo_S24x7168_S24_d1 h_S_) main_v3 main_cst_0
  let main_cst_1 : FVec F S_ .f32 := constant S_ .f32 0x00000000#32
  let main_v5 : FVec F S24 .f32 := broadcastInDim S24 ![] bcast_S_S24 main_cst_1
  let main_v6 : IVec S24 1 := cmpf .ogt main_v4 main_v5
  (main_v2, main_v6)
-- ==== Kernel.lean ====
abbrev S2x128x7168 : Shape := ⟨3, ![2, 128, 7168]⟩
abbrev S24x7168 : Shape := ⟨2, ![24, 7168]⟩
abbrev S3584x18432 : Shape := ⟨2, ![3584, 18432]⟩
abbrev S56x18432 : Shape := ⟨2, ![56, 18432]⟩
abbrev S256x7168 : Shape := ⟨2, ![256, 7168]⟩
abbrev S256x18432 : Shape := ⟨2, ![256, 18432]⟩
abbrev S3584x512 : Shape := ⟨2, ![3584, 512]⟩
abbrev S56x512 : Shape := ⟨2, ![56, 512]⟩
abbrev S256x512 : Shape := ⟨2, ![256, 512]⟩
abbrev S24 : Shape := ⟨1, ![24]⟩
abbrev S24x1 : Shape := ⟨2, ![24, 1]⟩
abbrev S24x24 : Shape := ⟨2, ![24, 24]⟩
abbrev S24x256 : Shape := ⟨2, ![24, 256]⟩
abbrev S1x256 : Shape := ⟨2, ![1, 256]⟩
abbrev S256x24 : Shape := ⟨2, ![256, 24]⟩
abbrev S128x512 : Shape := ⟨2, ![128, 512]⟩
abbrev S128x1x512 : Shape := ⟨3, ![128, 1, 512]⟩
abbrev S128x2x512 : Shape := ⟨3, ![128, 2, 512]⟩
abbrev S1x512 : Shape := ⟨2, ![1, 512]⟩
abbrev S256x256 : Shape := ⟨2, ![256, 256]⟩

abbrev nBuf : Space → Nat
  | .hbm => 8
  | .vmem => 11
  | .smem => 0
  | _ => 0

abbrev bufTy : (tb : Table) → Fin (tcTables nBuf tb) → BufTy
  | .hbm, ⟨0, _⟩ => ⟨S2x128x7168, .bf16⟩
  | .hbm, ⟨1, _⟩ => ⟨S24x7168, .f32⟩
  | .hbm, ⟨2, _⟩ => ⟨S3584x18432, .i8⟩
  | .hbm, ⟨3, _⟩ => ⟨S56x18432, .bf16⟩
  | .hbm, ⟨4, _⟩ => ⟨S56x18432, .i8⟩
  | .hbm, ⟨5, _⟩ => ⟨S256x7168, .bf16⟩
  | .hbm, ⟨6, _⟩ => ⟨S256x18432, .bf16⟩
  | .hbm, ⟨7, _⟩ => ⟨S256x7168, .bf16⟩
  | .local _ .vmem, ⟨0, _⟩ => ⟨S256x7168, .bf16⟩
  | .local _ .vmem, ⟨1, _⟩ => ⟨S24x7168, .f32⟩
  | .local _ .vmem, ⟨2, _⟩ => ⟨S3584x512, .i8⟩
  | .local _ .vmem, ⟨3, _⟩ => ⟨S3584x512, .i8⟩
  | .local _ .vmem, ⟨4, _⟩ => ⟨S56x512, .bf16⟩
  | .local _ .vmem, ⟨5, _⟩ => ⟨S56x512, .bf16⟩
  | .local _ .vmem, ⟨6, _⟩ => ⟨S56x512, .i8⟩
  | .local _ .vmem, ⟨7, _⟩ => ⟨S56x512, .i8⟩
  | .local _ .vmem, ⟨8, _⟩ => ⟨S256x512, .bf16⟩
  | .local _ .vmem, ⟨9, _⟩ => ⟨S256x512, .bf16⟩
  | .local _ .vmem, ⟨10, _⟩ => ⟨S256x7168, .bf16⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S24x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x128x7168 : Shape := ⟨3, ![2, 128, 7168]⟩
abbrev S24x7168 : Shape := ⟨2, ![24, 7168]⟩
abbrev S3584x18432 : Shape := ⟨2, ![3584, 18432]⟩
abbrev S56x18432 : Shape := ⟨2, ![56, 18432]⟩
abbrev S256x7168 : Shape := ⟨2, ![256, 7168]⟩
abbrev S256x18432 : Shape := ⟨2, ![256, 18432]⟩
abbrev S24 : Shape := ⟨1, ![24]⟩
abbrev S24x1 : Shape := ⟨2, ![24, 1]⟩
abbrev S24x24 : Shape := ⟨2, ![24, 24]⟩
abbrev S7168x24 : Shape := ⟨2, ![7168, 24]⟩
abbrev S1x24 : Shape := ⟨2, ![1, 24]⟩
abbrev S1x1 : Shape := ⟨2, ![1, 1]⟩
abbrev S256x24 : Shape := ⟨2, ![256, 24]⟩
abbrev S56x64x18432 : Shape := ⟨3, ![56, 64, 18432]⟩
abbrev S56x1x18432 : Shape := ⟨3, ![56, 1, 18432]⟩
abbrev S256x3584x2 : Shape := ⟨3, ![256, 3584, 2]⟩
abbrev S256x3584x1 : Shape := ⟨3, ![256, 3584, 1]⟩
abbrev S256x3584 : Shape := ⟨2, ![256, 3584]⟩

abbrev nBuf : Space → Nat
  | .hbm => 8
  | .vmem => 7
  | .smem => 0
  | _ => 0

abbrev bufTy : (tb : Table) → Fin (tcTables nBuf tb) → BufTy
  | .hbm, ⟨0, _⟩ => ⟨S2x128x7168, .bf16⟩
  | .hbm, ⟨1, _⟩ => ⟨S24x7168, .f32⟩
  | .hbm, ⟨2, _⟩ => ⟨S3584x18432, .i8⟩
  | .hbm, ⟨3, _⟩ => ⟨S56x18432, .bf16⟩
  | .hbm, ⟨4, _⟩ => ⟨S56x18432, .i8⟩
  | .hbm, ⟨5, _⟩ => ⟨S256x7168, .bf16⟩
  | .hbm, ⟨6, _⟩ => ⟨S256x18432, .bf16⟩
  | .hbm, ⟨7, _⟩ => ⟨S256x7168, .bf16⟩
  | .local _ .vmem, ⟨0, _⟩ => ⟨S256x7168, .bf16⟩
  | .local _ .vmem, ⟨1, _⟩ => ⟨S24x7168, .f32⟩
  | .local _ .vmem, ⟨2, _⟩ => ⟨S3584x18432, .i8⟩
  | .local _ .vmem, ⟨3, _⟩ => ⟨S56x18432, .bf16⟩
  | .local _ .vmem, ⟨4, _⟩ => ⟨S56x18432, .i8⟩
  | .local _ .vmem, ⟨5, _⟩ => ⟨S256x18432, .bf16⟩
  | .local _ .vmem, ⟨6, _⟩ => ⟨S256x7168, .bf16⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x18432 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x18432 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x18432 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x18432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
/-
   The kernel's body, run once at the first grid point and once at any later one.
   At the first point it computes the reflected activations and stores them whole into its output window 6; at every
   point it stores one tile of the product whole into its output window 5, from the activations that window 6 holds.
   The two runs name the pieces that each output buffer ends with.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S24x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S56x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S56x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x7168 .bf16 := win0_6.stage (cfg0.slots t 6)
abbrev hs0_6 (t : Fin cfg0.N) : (ms0_6 t).IsWhole := hstage0_6 ((cfg0.slots t 6).cast nbuf0_6)

set_option maxHeartbeats 1000000 in
/-- The body at the first grid point: on whole staging memrefs, the inputs' at their contents and the outputs' at
    anything, it runs to the continuation with the inputs as they were and each output's buffer with its pieces written. -/
noncomputable def runA (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : cond0_0 i)
    (x0 : Vec F S256x7168 .bf16) (x1 : Vec F S24x7168 .f32) (x2 : Vec F S3584x512 .i8) (x3 : Vec F S56x512 .bf16) (x4 : Vec F S56x512 .i8) :
    Σ' (L5 : List (View.Piece (Elt F) S256x512 .bf16)), { L6 : List (View.Piece (Elt F) S256x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_hra_int4_linear i arg1 harg1 arg2 harg2 arg3 harg3 arg4 harg4 arg5 harg5 arg6 harg6 arg7 harg7) K } := by
  refine ⟨?_, ?_, fun E K => ?run⟩
  case run =>
    simp only [cc0_hra_int4_linear_eq_skeleton]; unfold cc0_hra_int4_linear_skel
    simp only [k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

set_option maxHeartbeats 1000000 in
/-- The body at a later grid point: as at the first, but output window 6 comes in at `xo6` and is only read. -/
noncomputable def runB (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : ¬cond0_0 i)
    (x0 : Vec F S256x7168 .bf16) (x1 : Vec F S24x7168 .f32) (x2 : Vec F S3584x512 .i8) (x3 : Vec F S56x512 .bf16) (x4 : Vec F S56x512 .i8) (xo6 : Vec F S256x7168 .bf16) :
    { L5 : List (View.Piece (Elt F) S256x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xo6) -∗ K ⟨⟩))
          ⊢ wp frame (wpE (defs₀ (F := F)) Variants.none c none) E (cc0_hra_int4_linear i arg1 harg1 arg2 harg2 arg3 harg3 arg4 harg4 arg5 harg5 arg6 harg6 arg7 harg7) K } := by
  refine ⟨?_, fun E K => ?run⟩
  case run =>
    simp only [cc0_hra_int4_linear_eq_skeleton]; unfold cc0_hra_int4_linear_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact H6

end Cert.KernelIdeal.Run

end
-- ==== Proof.KernelFrame.lean ====
/-
   The kernel's run, from its body's two runs.
   Window 6 (the reflected activations) is stored at the first grid point only and stays in its staging buffer through
   the later ones, to be written back after the last; so what it holds is the same array `zbAt` at every point.
   Window 5 (the product) is stored and written back at every point.
   `run_blocks` names the two output arrays after the run.
-/
module

public import proofs.«01_k».proof.Proof.KernelRun
public import Idealize.ShloMosaic.Lib.Claim
public import Idealize.ShloMosaic.Lib.Pipeline.TableIdle
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the output windows are idle -/

/-- Window 5 is stored at every point. -/
theorem liveAt0_5 : ∀ t : Fin cfg0.N, cfg0.idle 5 (grid0.coords t) = false := fun _ => rfl
/-- Window 6 is stored at the first point, -/
theorem liveAt0_6_A : ∀ t : Fin cfg0.N, cond0_0 (grid0.coords t) → cfg0.idle 6 (grid0.coords t) = false := by decide +kernel
/-- and at no later one. -/
theorem idleAt0_6_B : ∀ t : Fin cfg0.N, ¬cond0_0 (grid0.coords t) → cfg0.idle 6 (grid0.coords t) = true := by decide +kernel
/-- Whether window 6's buffer holds nothing that the body stored: so at the entry, and after the one write-back, at
    position 36. -/
def freshTab0_6 : ℕ → Bool
  | 0 => true
  | n + 1 => (0x800000000 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the later points window 6's buffer holds what the first point stored. -/
theorem notFresh0_6_B : ∀ t : Fin cfg0.N, ¬cond0_0 (grid0.coords t) → cfg0.fresh 6 t.val = false := by
  intro t; rw [fresh0_6_eq t]; revert t; decide +kernel

/-! ## What the two cases leave in the output buffers -/

/-- One staging buffer of each output window, through which its contents are stated (which one does not matter). -/
abbrev VO0_5 : View sig .tc .vmem S256x512 .bf16 := (Memref.whole cc0_stg5_0 : Memref sig .tc .vmem S256x512 .bf16).view
abbrev VO0_6 : View sig .tc .vmem S256x7168 .bf16 := (Memref.whole cc0_stg6_0 : Memref sig .tc .vmem S256x7168 .bf16).view

/-- Case A stores output 5's block whole. -/
theorem cover0_A_5 (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : cond0_0 i)
    (x0 : Vec F S256x7168 .bf16) (x1 : Vec F S24x7168 .f32) (x2 : Vec F S3584x512 .i8) (x3 : Vec F S56x512 .bf16) (x4 : Vec F S56x512 .i8) (y : S256x512.Idx) :
    ∃ pc ∈ (runA c i arg1 harg1 arg2 harg2 arg3 harg3 arg4 harg4 arg5 harg5 arg6 harg6 arg7 harg7 hc0 x0 x1 x2 x3 x4).1, y ∈ pc.1.set :=
  View.cover_of_tiledL (runA c i arg1 harg1 arg2 harg2 arg3 harg3 arg4 harg4 arg5 harg5 arg6 harg6 arg7 harg7 hc0 x0 x1 x2 x3 x4).1 S256x512.size (by sl_kernel_rfl) y

/-- What case A leaves in output 5's buffer: its pieces read back. -/
def out0_A_5 (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : cond0_0 i)
    (x0 : Vec F S256x7168 .bf16) (x1 : Vec F S24x7168 .f32) (x2 : Vec F S3584x512 .i8) (x3 : Vec F S56x512 .bf16) (x4 : Vec F S56x512 .i8) : Vec F S256x512 .bf16 :=
  VO0_5.read (Elt F) (VO0_5.writes (Elt F) VO0_5.junk (runA c i arg1 harg1 arg2 harg2 arg3 harg3 arg4 harg4 arg5 harg5 arg6 harg6 arg7 harg7 hc0 x0 x1 x2 x3 x4).1)

/-- Case A stores output 6's block whole. -/
theorem cover0_A_6 (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : cond0_0 i)
    (x0 : Vec F S256x7168 .bf16) (x1 : Vec F S24x7168 .f32) (x2 : Vec F S3584x512 .i8) (x3 : Vec F S56x512 .bf16) (x4 : Vec F S56x512 .i8) (y : S256x7168.Idx) :
    ∃ pc ∈ (runA c i arg1 harg1 arg2 harg2 arg3 harg3 arg4 harg4 arg5 harg5 arg6 harg6 arg7 harg7 hc0 x0 x1 x2 x3 x4).2.1, y ∈ pc.1.set :=
  View.cover_of_tiledL (runA c i arg1 harg1 arg2 harg2 arg3 harg3 arg4 harg4 arg5 harg5 arg6 harg6 arg7 harg7 hc0 x0 x1 x2 x3 x4).2.1 S256x7168.size (by sl_kernel_rfl) y

/-- What case A leaves in output 6's buffer: its pieces read back. -/
def out0_A_6 (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : cond0_0 i)
    (x0 : Vec F S256x7168 .bf16) (x1 : Vec F S24x7168 .f32) (x2 : Vec F S3584x512 .i8) (x3 : Vec F S56x512 .bf16) (x4 : Vec F S56x512 .i8) : Vec F S256x7168 .bf16 :=
  VO0_6.read (Elt F) (VO0_6.writes (Elt F) VO0_6.junk (runA c i arg1 harg1 arg2 harg2 arg3 harg3 arg4 harg4 arg5 harg5 arg6 harg6 arg7 harg7 hc0 x0 x1 x2 x3 x4).2.1)

/-- Case B stores output 5's block whole. -/
theorem cover0_B_5 (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : ¬cond0_0 i)
    (x0 : Vec F S256x7168 .bf16) (x1 : Vec F S24x7168 .f32) (x2 : Vec F S3584x512 .i8) (x3 : Vec F S56x512 .bf16) (x4 : Vec F S56x512 .i8) (xo6 : Vec F S256x7168 .bf16) (y : S256x512.Idx) :
    ∃ pc ∈ (runB c i arg1 harg1 arg2 harg2 arg3 harg3 arg4 harg4 arg5 harg5 arg6 harg6 arg7 harg7 hc0 x0 x1 x2 x3 x4 xo6).1, y ∈ pc.1.set :=
  View.cover_of_tiledL (runB c i arg1 harg1 arg2 harg2 arg3 harg3 arg4 harg4 arg5 harg5 arg6 harg6 arg7 harg7 hc0 x0 x1 x2 x3 x4 xo6).1 S256x512.size (by sl_kernel_rfl) y

/-- What case B leaves in output 5's buffer: its pieces read back. -/
def out0_B_5 (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : ¬cond0_0 i)
    (x0 : Vec F S256x7168 .bf16) (x1 : Vec F S24x7168 .f32) (x2 : Vec F S3584x512 .i8) (x3 : Vec F S56x512 .bf16) (x4 : Vec F S56x512 .i8) (xo6 : Vec F S256x7168 .bf16) : Vec F S256x512 .bf16 :=
  VO0_5.read (Elt F) (VO0_5.writes (Elt F) VO0_5.junk (runB c i arg1 harg1 arg2 harg2 arg3 harg3 arg4 harg4 arg5 harg5 arg6 harg6 arg7 harg7 hc0 x0 x1 x2 x3 x4 xo6).1)

/-! ## What the outputs hold after each point -/

/-- The activations that window 6 holds: what the first point stores. -/
def zbAt (c : Dev nD) : Vec F S256x7168 .bf16 :=
  let t : Fin cfg0.N := ⟨0, by rw [show cfg0.N = 36 from N_0]; omega⟩
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr (Nat.zero_mod _)) (iblk m c 0 t) (iblk m c 1 t) (iblk m c 2 t) (iblk m c 3 t) (iblk m c 4 t)

/-- The tile of the product that point `t` stores. -/
def tileAt (c : Dev nD) (t : Fin cfg0.N) : Vec F S256x512 .bf16 :=
  if h0 : t.val % 36 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (zbAt m c)

theorem tileAt_A (c : Dev nD) (t : Fin cfg0.N) (h0 : t.val % 36 = 0) : tileAt m c t =
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) := dif_pos h0

theorem tileAt_B (c : Dev nD) (t : Fin cfg0.N) (h0 : ¬t.val % 36 = 0) : tileAt m c t =
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (zbAt m c) := dif_neg h0

theorem zbAt_A (c : Dev nD) (t : Fin cfg0.N) (h0 : t.val % 36 = 0) : zbAt m c =
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) := by
  have hN : t.val < 36 := lt_of_lt_of_eq t.isLt (show cfg0.N = 36 from N_0)
  obtain ⟨n, hn⟩ := t
  obtain rfl : n = 0 := by simp only at h0 hN; omega
  rfl

/-! ## The pipeline's proof data -/

/-- The proof data of the one pipeline on core `c`: the arrays as the region finds them (`V`); after the body at
    point `t` each input's buffer at its block, window 5's at that point's tile and window 6's at the activations. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileAt m c t
    | ⟨6, _⟩ => zbAt m c
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tileAt m c t := by dsimp only [dats]
theorem after0_6 (c : Dev nD) (t : Fin cfg0.N) : (dats m 0 c).after 6 t = zbAt m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a later point window 6's buffer holds the activations. -/
theorem before0_6_B (c : Dev nD) (t : Fin cfg0.N) (h0 : ¬t.val % 36 = 0) (d) :
    (dats m 0 c).before 6 t d = zbAt m c := by
  rw [Dat.before_out_traj _ 6 rfl (fun _ _ => rfl) (fun t _ _ _ => by rw [after0_6, after0_6]) t.val t rfl d,
    if_neg (by rw [notFresh0_6_B t (fun h => h0 ((hcond0_0 t).mp h))]; exact Bool.false_ne_true)]
  dsimp only [dats]

/-- At a later point it is left so, whether it is written back there or not. -/
theorem leaves0_6_B (c : Dev nD) (t : Fin cfg0.N) (h0 : ¬t.val % 36 = 0) :
    owns (c : Thread nD τ) (ms0_6 t) fullShare (zbAt m c) ⊢ ((dats m 0 c).leavesExact 6 t : sProp 𝕄) := by
  have hi := idleAt0_6_B t (fun h => h0 ((hcond0_0 t).mp h))
  cases hf : (cfg0.win 6).flush t
  · rw [(dats m 0 c).leavesExact_idle 6 t hi hf]
    iintro H; iexists (zbAt m c); rw [before0_6_B m c t h0]; iexact H
  · rw [show (dats m 0 c).leavesExact 6 t = owns (c : Thread nD τ) (ms0_6 t) fullShare ((dats m 0 c).after 6 t) from by
      unfold Dat.leavesExact; rw [hi, hf], after0_6]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point: the inputs' buffers hold their blocks, and the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  by_cases h0 : t.val % 36 = 0
  · rw [show (dats m 0 c).leavesExact 6 t = owns (c : Thread nD τ) (ms0_6 t) fullShare ((dats m 0 c).after 6 t) from by
      unfold Dat.leavesExact; rw [liveAt0_6_A t ((hcond0_0 t).mpr h0)], after0_6]
    rw [tileAt_A m c t h0, zbAt_A m c t h0]
    unfold out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ ((hcond0_0 t).mpr h0) (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _)
  · rw [tileAt_B m c t h0]
    simp only [before0_6_B m c t h0]
    unfold out0_B_5; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ (fun h => h0 ((hcond0_0 t).mp h)) (iblk m c 0 t) (iblk m c 1 t) (iblk m c 2 t) (iblk m c 3 t) (iblk m c 4 t) (zbAt m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _)
    iapply (leaves0_6_B m c t h0); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with every array of the pipeline at what the proof data computes, and every other buffer as the
    region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every execution ends, with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-! ## The output arrays after the run -/

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_1) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

end Cert.KernelIdeal.Run

end
-- ==== Proof.BitsRun.lean ====
/-
   For the program `Kernel`, which `KernelIdeal` repeats letter for letter: KernelRun.lean in its names.

   The kernel's body, run once at the first grid point and once at any later one.
   At the first point it computes the reflected activations and stores them whole into its output window 6; at every
   point it stores one tile of the product whole into its output window 5, from the activations that window 6 holds.
   The two runs name the pieces that each output buffer ends with.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S24x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S56x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S56x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x7168 .bf16 := win0_6.stage (cfg0.slots t 6)
abbrev hs0_6 (t : Fin cfg0.N) : (ms0_6 t).IsWhole := hstage0_6 ((cfg0.slots t 6).cast nbuf0_6)

set_option maxHeartbeats 1000000 in
/-- The body at the first grid point: on whole staging memrefs, the inputs' at their contents and the outputs' at
    anything, it runs to the continuation with the inputs as they were and each output's buffer with its pieces written. -/
noncomputable def runA (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : cond0_0 i)
    (x0 : Vec F S256x7168 .bf16) (x1 : Vec F S24x7168 .f32) (x2 : Vec F S3584x512 .i8) (x3 : Vec F S56x512 .bf16) (x4 : Vec F S56x512 .i8) :
    Σ' (L5 : List (View.Piece (Elt F) S256x512 .bf16)), { L6 : List (View.Piece (Elt F) S256x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_hra_int4_linear i arg1 harg1 arg2 harg2 arg3 harg3 arg4 harg4 arg5 harg5 arg6 harg6 arg7 harg7) K } := by
  refine ⟨?_, ?_, fun E K => ?run⟩
  case run =>
    simp only [cc0_hra_int4_linear_eq_skeleton]; unfold cc0_hra_int4_linear_skel
    simp only [k0_part8_eq_skeleton, k0_part1_eq_skeleton, k0_part2_eq_skeleton, k0_part3_eq_skeleton, k0_part4_eq_skeleton, k0_part5_eq_skeleton, k0_part6_eq_skeleton, k0_part7_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

set_option maxHeartbeats 1000000 in
/-- The body at a later grid point: as at the first, but output window 6 comes in at `xo6` and is only read. -/
noncomputable def runB (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : ¬cond0_0 i)
    (x0 : Vec F S256x7168 .bf16) (x1 : Vec F S24x7168 .f32) (x2 : Vec F S3584x512 .i8) (x3 : Vec F S56x512 .bf16) (x4 : Vec F S56x512 .i8) (xo6 : Vec F S256x7168 .bf16) :
    { L5 : List (View.Piece (Elt F) S256x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xo6) -∗ K ⟨⟩))
          ⊢ wp frame (wpE (defs₀ (F := F)) Variants.none c none) E (cc0_hra_int4_linear i arg1 harg1 arg2 harg2 arg3 harg3 arg4 harg4 arg5 harg5 arg6 harg6 arg7 harg7) K } := by
  refine ⟨?_, fun E K => ?run⟩
  case run =>
    simp only [cc0_hra_int4_linear_eq_skeleton]; unfold cc0_hra_int4_linear_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact H6

end Cert.Kernel.Run

end
-- ==== Proof.BitsFrame.lean ====
/-
   For the program `Kernel`, which `KernelIdeal` repeats letter for letter: KernelFrame.lean in its names.

   The kernel's run, from its body's two runs.
   Window 6 (the reflected activations) is stored at the first grid point only and stays in its staging buffer through
   the later ones, to be written back after the last; so what it holds is the same array `zbAt` at every point.
   Window 5 (the product) is stored and written back at every point.
   `run_blocks` names the two output arrays after the run.
-/
module

public import proofs.«01_k».proof.Proof.BitsRun
public import Idealize.ShloMosaic.Lib.Claim
public import Idealize.ShloMosaic.Lib.Pipeline.TableIdle
public import Idealize.ShloMosaic.Lib.Pipeline.Value

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the output windows are idle -/

/-- Window 5 is stored at every point. -/
theorem liveAt0_5 : ∀ t : Fin cfg0.N, cfg0.idle 5 (grid0.coords t) = false := fun _ => rfl
/-- Window 6 is stored at the first point, -/
theorem liveAt0_6_A : ∀ t : Fin cfg0.N, cond0_0 (grid0.coords t) → cfg0.idle 6 (grid0.coords t) = false := by decide +kernel
/-- and at no later one. -/
theorem idleAt0_6_B : ∀ t : Fin cfg0.N, ¬cond0_0 (grid0.coords t) → cfg0.idle 6 (grid0.coords t) = true := by decide +kernel
/-- Whether window 6's buffer holds nothing that the body stored: so at the entry, and after the one write-back, at
    position 36. -/
def freshTab0_6 : ℕ → Bool
  | 0 => true
  | n + 1 => (0x800000000 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the later points window 6's buffer holds what the first point stored. -/
theorem notFresh0_6_B : ∀ t : Fin cfg0.N, ¬cond0_0 (grid0.coords t) → cfg0.fresh 6 t.val = false := by
  intro t; rw [fresh0_6_eq t]; revert t; decide +kernel

/-! ## What the two cases leave in the output buffers -/

/-- One staging buffer of each output window, through which its contents are stated (which one does not matter). -/
abbrev VO0_5 : View sig .tc .vmem S256x512 .bf16 := (Memref.whole cc0_stg5_0 : Memref sig .tc .vmem S256x512 .bf16).view
abbrev VO0_6 : View sig .tc .vmem S256x7168 .bf16 := (Memref.whole cc0_stg6_0 : Memref sig .tc .vmem S256x7168 .bf16).view

/-- Case A stores output 5's block whole. -/
theorem cover0_A_5 (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : cond0_0 i)
    (x0 : Vec F S256x7168 .bf16) (x1 : Vec F S24x7168 .f32) (x2 : Vec F S3584x512 .i8) (x3 : Vec F S56x512 .bf16) (x4 : Vec F S56x512 .i8) (y : S256x512.Idx) :
    ∃ pc ∈ (runA c i arg1 harg1 arg2 harg2 arg3 harg3 arg4 harg4 arg5 harg5 arg6 harg6 arg7 harg7 hc0 x0 x1 x2 x3 x4).1, y ∈ pc.1.set :=
  View.cover_of_tiledL (runA c i arg1 harg1 arg2 harg2 arg3 harg3 arg4 harg4 arg5 harg5 arg6 harg6 arg7 harg7 hc0 x0 x1 x2 x3 x4).1 S256x512.size (by sl_kernel_rfl) y

/-- What case A leaves in output 5's buffer: its pieces read back. -/
def out0_A_5 (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : cond0_0 i)
    (x0 : Vec F S256x7168 .bf16) (x1 : Vec F S24x7168 .f32) (x2 : Vec F S3584x512 .i8) (x3 : Vec F S56x512 .bf16) (x4 : Vec F S56x512 .i8) : Vec F S256x512 .bf16 :=
  VO0_5.read (Elt F) (VO0_5.writes (Elt F) VO0_5.junk (runA c i arg1 harg1 arg2 harg2 arg3 harg3 arg4 harg4 arg5 harg5 arg6 harg6 arg7 harg7 hc0 x0 x1 x2 x3 x4).1)

/-- Case A stores output 6's block whole. -/
theorem cover0_A_6 (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : cond0_0 i)
    (x0 : Vec F S256x7168 .bf16) (x1 : Vec F S24x7168 .f32) (x2 : Vec F S3584x512 .i8) (x3 : Vec F S56x512 .bf16) (x4 : Vec F S56x512 .i8) (y : S256x7168.Idx) :
    ∃ pc ∈ (runA c i arg1 harg1 arg2 harg2 arg3 harg3 arg4 harg4 arg5 harg5 arg6 harg6 arg7 harg7 hc0 x0 x1 x2 x3 x4).2.1, y ∈ pc.1.set :=
  View.cover_of_tiledL (runA c i arg1 harg1 arg2 harg2 arg3 harg3 arg4 harg4 arg5 harg5 arg6 harg6 arg7 harg7 hc0 x0 x1 x2 x3 x4).2.1 S256x7168.size (by sl_kernel_rfl) y

/-- What case A leaves in output 6's buffer: its pieces read back. -/
def out0_A_6 (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : cond0_0 i)
    (x0 : Vec F S256x7168 .bf16) (x1 : Vec F S24x7168 .f32) (x2 : Vec F S3584x512 .i8) (x3 : Vec F S56x512 .bf16) (x4 : Vec F S56x512 .i8) : Vec F S256x7168 .bf16 :=
  VO0_6.read (Elt F) (VO0_6.writes (Elt F) VO0_6.junk (runA c i arg1 harg1 arg2 harg2 arg3 harg3 arg4 harg4 arg5 harg5 arg6 harg6 arg7 harg7 hc0 x0 x1 x2 x3 x4).2.1)

/-- Case B stores output 5's block whole. -/
theorem cover0_B_5 (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : ¬cond0_0 i)
    (x0 : Vec F S256x7168 .bf16) (x1 : Vec F S24x7168 .f32) (x2 : Vec F S3584x512 .i8) (x3 : Vec F S56x512 .bf16) (x4 : Vec F S56x512 .i8) (xo6 : Vec F S256x7168 .bf16) (y : S256x512.Idx) :
    ∃ pc ∈ (runB c i arg1 harg1 arg2 harg2 arg3 harg3 arg4 harg4 arg5 harg5 arg6 harg6 arg7 harg7 hc0 x0 x1 x2 x3 x4 xo6).1, y ∈ pc.1.set :=
  View.cover_of_tiledL (runB c i arg1 harg1 arg2 harg2 arg3 harg3 arg4 harg4 arg5 harg5 arg6 harg6 arg7 harg7 hc0 x0 x1 x2 x3 x4 xo6).1 S256x512.size (by sl_kernel_rfl) y

/-- What case B leaves in output 5's buffer: its pieces read back. -/
def out0_B_5 (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole) (hc0 : ¬cond0_0 i)
    (x0 : Vec F S256x7168 .bf16) (x1 : Vec F S24x7168 .f32) (x2 : Vec F S3584x512 .i8) (x3 : Vec F S56x512 .bf16) (x4 : Vec F S56x512 .i8) (xo6 : Vec F S256x7168 .bf16) : Vec F S256x512 .bf16 :=
  VO0_5.read (Elt F) (VO0_5.writes (Elt F) VO0_5.junk (runB c i arg1 harg1 arg2 harg2 arg3 harg3 arg4 harg4 arg5 harg5 arg6 harg6 arg7 harg7 hc0 x0 x1 x2 x3 x4 xo6).1)

/-! ## What the outputs hold after each point -/

/-- The activations that window 6 holds: what the first point stores. -/
def zbAt (c : Dev nD) : Vec F S256x7168 .bf16 :=
  let t : Fin cfg0.N := ⟨0, by rw [show cfg0.N = 36 from N_0]; omega⟩
  out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr (Nat.zero_mod _)) (iblk m c 0 t) (iblk m c 1 t) (iblk m c 2 t) (iblk m c 3 t) (iblk m c 4 t)

/-- The tile of the product that point `t` stores. -/
def tileAt (c : Dev nD) (t : Fin cfg0.N) : Vec F S256x512 .bf16 :=
  if h0 : t.val % 36 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (zbAt m c)

theorem tileAt_A (c : Dev nD) (t : Fin cfg0.N) (h0 : t.val % 36 = 0) : tileAt m c t =
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) := dif_pos h0

theorem tileAt_B (c : Dev nD) (t : Fin cfg0.N) (h0 : ¬t.val % 36 = 0) : tileAt m c t =
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (zbAt m c) := dif_neg h0

theorem zbAt_A (c : Dev nD) (t : Fin cfg0.N) (h0 : t.val % 36 = 0) : zbAt m c =
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) := by
  have hN : t.val < 36 := lt_of_lt_of_eq t.isLt (show cfg0.N = 36 from N_0)
  obtain ⟨n, hn⟩ := t
  obtain rfl : n = 0 := by simp only at h0 hN; omega
  rfl

/-! ## The pipeline's proof data -/

/-- The proof data of the one pipeline on core `c`: the arrays as the region finds them (`V`); after the body at
    point `t` each input's buffer at its block, window 5's at that point's tile and window 6's at the activations. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileAt m c t
    | ⟨6, _⟩ => zbAt m c
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tileAt m c t := by dsimp only [dats]
theorem after0_6 (c : Dev nD) (t : Fin cfg0.N) : (dats m 0 c).after 6 t = zbAt m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a later point window 6's buffer holds the activations. -/
theorem before0_6_B (c : Dev nD) (t : Fin cfg0.N) (h0 : ¬t.val % 36 = 0) (d) :
    (dats m 0 c).before 6 t d = zbAt m c := by
  rw [Dat.before_out_traj _ 6 rfl (fun _ _ => rfl) (fun t _ _ _ => by rw [after0_6, after0_6]) t.val t rfl d,
    if_neg (by rw [notFresh0_6_B t (fun h => h0 ((hcond0_0 t).mp h))]; exact Bool.false_ne_true)]
  dsimp only [dats]

/-- At a later point it is left so, whether it is written back there or not. -/
theorem leaves0_6_B (c : Dev nD) (t : Fin cfg0.N) (h0 : ¬t.val % 36 = 0) :
    owns (c : Thread nD τ) (ms0_6 t) fullShare (zbAt m c) ⊢ ((dats m 0 c).leavesExact 6 t : sProp 𝕄) := by
  have hi := idleAt0_6_B t (fun h => h0 ((hcond0_0 t).mp h))
  cases hf : (cfg0.win 6).flush t
  · rw [(dats m 0 c).leavesExact_idle 6 t hi hf]
    iintro H; iexists (zbAt m c); rw [before0_6_B m c t h0]; iexact H
  · rw [show (dats m 0 c).leavesExact 6 t = owns (c : Thread nD τ) (ms0_6 t) fullShare ((dats m 0 c).after 6 t) from by
      unfold Dat.leavesExact; rw [hi, hf], after0_6]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point: the inputs' buffers hold their blocks, and the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  by_cases h0 : t.val % 36 = 0
  · rw [show (dats m 0 c).leavesExact 6 t = owns (c : Thread nD τ) (ms0_6 t) fullShare ((dats m 0 c).after 6 t) from by
      unfold Dat.leavesExact; rw [liveAt0_6_A t ((hcond0_0 t).mpr h0)], after0_6]
    rw [tileAt_A m c t h0, zbAt_A m c t h0]
    unfold out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ ((hcond0_0 t).mpr h0) (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _)
  · rw [tileAt_B m c t h0]
    simp only [before0_6_B m c t h0]
    unfold out0_B_5; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ (fun h => h0 ((hcond0_0 t).mp h)) (iblk m c 0 t) (iblk m c 1 t) (iblk m c 2 t) (iblk m c 3 t) (iblk m c 4 t) (zbAt m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _)
    iapply (leaves0_6_B m c t h0); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with every array of the pipeline at what the proof data computes, and every other buffer as the
    region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every execution ends, with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-! ## The output arrays after the run -/

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_1) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

end Cert.Kernel.Run

end
-- ==== Proof.Reals.lean ====
/-
   Constants read as reals, and small facts about the extended reals.
-/
module

public import Idealize.ShloMosaic.Lib.Pointwise

@[expose] public section

namespace Cert.Reals

open Idealize.ShloMosaic

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_inf : Ideal.ofBits .bf16 0x7F80#16 = ⊤ := by
  simp [Ideal.ofBits, Ideal.ieee]

/-- A finite sum of reals, in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A comparison of words below `2 ^ 32`. -/
theorem cmpi_eq_ofNat (a b : ℕ) (ha : a < 2 ^ 32) (hb : b < 2 ^ 32) :
    IntOp.cmpi .eq (BitVec.ofNat 32 a) (BitVec.ofNat 32 b) = if a = b then 1#1 else 0#1 := by
  by_cases h : a = b
  · subst h; simp [IntOp.cmpi]
  · have hne : BitVec.ofNat 32 a ≠ BitVec.ofNat 32 b := fun e => h (by
      have e' := congrArg BitVec.toNat e
      rwa [BitVec.toNat_ofNat, BitVec.toNat_ofNat, Nat.mod_eq_of_lt ha, Nat.mod_eq_of_lt hb] at e')
    rw [if_neg h]
    show BitVec.ofBool (BitVec.ofNat 32 a == BitVec.ofNat 32 b) = 0#1
    rw [beq_eq_false_iff_ne.mpr hne]; rfl

end Cert.Reals
-- ==== Proof.KernelSteps.lean ====
/-
   The forward recurrence by which the kernel finds its coefficients, read over the reals.
   It holds the products `pt` of the unit vectors with the rows of `x`; step `t` takes twice the row `t` as the coefficient
   of vector `t` and takes that multiple of column `t` of the Gram matrix off every row.
-/
module

public import proofs.«01_k».proof.Proof.Gen.KernelIdeal.Skeleton
public import proofs.«01_k».proof.Proof.Reals

@[expose] public section

set_option maxRecDepth 16384

noncomputable section

namespace Cert.KernelIdeal.Steps

open Cert.KernelIdeal Cert.KernelIdeal.Gen
open Idealize.ShloMosaic Cert.Reals

/-- The products after one more step. -/
abbrev ptNext (gc : FVec Ideal S24x1 .f32) (q : FVec Ideal S1x256 .f32) (pt : FVec Ideal S24x256 .f32) : FVec Ideal S24x256 .f32 :=
  subf pt (mulf (broadcastTo S24x256 gc broadcasts_S24x1_S24x256) (broadcastTo S24x256 q broadcasts_S1x256_S24x256))

/-- Twice row `t` of the products. -/
abbrev qRow (t : ℕ) (h : S24x256.Slices ![t, 0] S1x256) (pt : FVec Ideal S24x256 .f32) : FVec Ideal S1x256 .f32 :=
  mulf (broadcast S1x256 (Scalar.ofBits .f32 0x40000000#32)) (extractStridedSlice S1x256 ![t, 0] pt h)

/-- The coefficients with row `t` set. -/
abbrev qtNext (t : ℕ) (io : IVec S24x256 32) (q : FVec Ideal S1x256 .f32) (qt : FVec Ideal S24x256 .f32) : FVec Ideal S24x256 .f32 :=
  select (cmpi .eq io (broadcast S24x256 (BitVec.ofNat 32 t)))
    (broadcastTo S24x256 (shapeCast S1x256 q shapeCasts_S1x256_S1x256) broadcasts_S1x256_S24x256) qt

/-- The products in exact arithmetic: `p` at first, then step by step. -/
def prodAt (G : Fin 24 → Fin 24 → ℝ) (p : Fin 24 → Fin 256 → ℝ) : ℕ → Fin 24 → Fin 256 → ℝ
  | 0 => p
  | t + 1 => fun r c => if h : t < 24 then prodAt G p t r c - G r ⟨t, h⟩ * (2 * prodAt G p t ⟨t, h⟩ c) else 0

/-- What the kernel's four vectors hold at step `t`. -/
structure St (G : Fin 24 → Fin 24 → ℝ) (p : Fin 24 → Fin 256 → ℝ) (t : Fin 24) (pt : FVec Ideal S24x256 .f32)
    (q : FVec Ideal S1x256 .f32) (gc : FVec Ideal S24x1 .f32) (qt : FVec Ideal S24x256 .f32) : Prop where
  pt : ∀ r c, pt (ix2 r c) = ((prodAt G p t r c : ℝ) : EReal)
  q : ∀ c, q (ix2 0 c) = ((2 * prodAt G p t t c : ℝ) : EReal)
  gc : ∀ r, gc (ix2 r 0) = ((G r t : ℝ) : EReal)
  qt : ∀ r c, qt (ix2 r c) = if r ≤ t then ((2 * prodAt G p r r c : ℝ) : EReal) else 0

/-- One step. -/
theorem St.step {G : Fin 24 → Fin 24 → ℝ} {p : Fin 24 → Fin 256 → ℝ} {t : Fin 24} {pt : FVec Ideal S24x256 .f32}
    {q : FVec Ideal S1x256 .f32} {gc : FVec Ideal S24x1 .f32} {qt : FVec Ideal S24x256 .f32} (h : St G p t pt q gc qt)
    {g : FVec Ideal S24x24 .f32} (hg : ∀ r k, g (ix2 r k) = ((G r k : ℝ) : EReal))
    {io : IVec S24x256 32} (hio : ∀ r c, io (ix2 r c) = BitVec.ofNat 32 r.val) (t' : Fin 24) (ht : t'.val = t.val + 1)
    (hr : S24x256.Slices ![t'.val, 0] S1x256) (hc : S24x24.Slices ![0, t'.val] S24x1) :
    St G p t' (ptNext gc q pt) (qRow t' hr (ptNext gc q pt)) (extractStridedSlice S24x1 ![0, t'.val] g hc)
      (qtNext t' io (qRow t' hr (ptNext gc q pt)) qt) := by
  have e1 : ∀ r c, ptNext gc q pt (ix2 r c) = ((prodAt G p t' r c : ℝ) : EReal) := by
    intro r c
    pointwise
    rw [h.pt, h.gc, h.q, ← EReal.coe_mul, ← EReal.coe_sub, ht]
    simp only [prodAt, dif_pos t.isLt]
  have e2 : ∀ c, qRow t' hr (ptNext gc q pt) (ix2 0 c) = ((2 * prodAt G p t' t' c : ℝ) : EReal) := by
    intro c
    have e := e1 t' c
    pointwise at e
    pointwise
    rw [e, ofBits_two, ← EReal.coe_mul]
  refine ⟨e1, e2, fun r => ?_, fun r c => ?_⟩
  · pointwise
    exact hg r t'
  · have e := e2 c
    pointwise at e
    pointwise
    rw [e, hio, cmpi_eq_ofNat _ _ (by omega) (by omega), h.qt]
    by_cases hrt : r = t'
    · subst hrt
      simp [Scalar.select]
    · have h1 : r.val ≠ t'.val := fun e => hrt (Fin.ext e)
      have h2 : r ≤ t ↔ r ≤ t' := by simp only [Fin.le_def]; omega
      simp [Scalar.select, h1, h2]

end Cert.KernelIdeal.Steps

end
-- ==== Proof.KernelRefl.lean ====
/-
   The reflected activations that the kernel computes, over the reals, where the unit vectors and `x` are real.
   The three-way splits of a real number leave nothing after their first part, so each product is one sum.
-/
module

public import proofs.«01_k».proof.Proof.KernelSteps

@[expose] public section

set_option maxRecDepth 16384

noncomputable section

namespace Cert.KernelIdeal.Steps

open Cert.KernelIdeal Cert.KernelIdeal.Gen
open Idealize.ShloMosaic Cert.Reals

/-! ## The four groups of four steps and the last three -/

section parts

variable {G : Fin 24 → Fin 24 → ℝ} {p : Fin 24 → Fin 256 → ℝ} {g : FVec Ideal S24x24 .f32}
  (hg : ∀ r k, g (ix2 r k) = ((G r k : ℝ) : EReal)) {io : IVec S24x256 32}
  (hio : ∀ r c, io (ix2 r c) = BitVec.ofNat 32 r.val)
include hg hio

theorem part2 {t : Fin 24} {pt q gc qt} (ht : t = 0) (h : St G p t pt q gc qt) :
    St G p 4 (k0_pay18 g pt q gc) (k0_pay19 g pt q gc) (k0_pay21 g) (k0_pay20 g pt io q qt gc) := by
  subst ht
  exact ((((h.step hg hio 1 rfl slices_S24x256_o1_0_S1x256 slices_S24x24_o0_1_S24x1).step hg hio 2 rfl
    slices_S24x256_o2_0_S1x256 slices_S24x24_o0_2_S24x1).step hg hio 3 rfl slices_S24x256_o3_0_S1x256
    slices_S24x24_o0_3_S24x1).step hg hio 4 rfl slices_S24x256_o4_0_S1x256 slices_S24x24_o0_4_S24x1)

theorem part3 {t : Fin 24} {pt q gc qt} (ht : t = 4) (h : St G p t pt q gc qt) :
    St G p 8 (k0_pay28 g pt q gc) (k0_pay29 g pt q gc) (k0_pay31 g) (k0_pay30 g io pt q qt gc) := by
  subst ht
  exact ((((h.step hg hio 5 rfl slices_S24x256_o5_0_S1x256 slices_S24x24_o0_5_S24x1).step hg hio 6 rfl
    slices_S24x256_o6_0_S1x256 slices_S24x24_o0_6_S24x1).step hg hio 7 rfl slices_S24x256_o7_0_S1x256
    slices_S24x24_o0_7_S24x1).step hg hio 8 rfl slices_S24x256_o8_0_S1x256 slices_S24x24_o0_8_S24x1)

theorem part4 {t : Fin 24} {pt q gc qt} (ht : t = 8) (h : St G p t pt q gc qt) :
    St G p 12 (k0_pay38 g pt q gc) (k0_pay39 g pt q gc) (k0_pay41 g) (k0_pay40 g io pt q qt gc) := by
  subst ht
  exact ((((h.step hg hio 9 rfl slices_S24x256_o9_0_S1x256 slices_S24x24_o0_9_S24x1).step hg hio 10 rfl
    slices_S24x256_o10_0_S1x256 slices_S24x24_o0_10_S24x1).step hg hio 11 rfl slices_S24x256_o11_0_S1x256
    slices_S24x24_o0_11_S24x1).step hg hio 12 rfl slices_S24x256_o12_0_S1x256 slices_S24x24_o0_12_S24x1)

theorem part5 {t : Fin 24} {pt q gc qt} (ht : t = 12) (h : St G p t pt q gc qt) :
    St G p 16 (k0_pay48 g pt q gc) (k0_pay49 g pt q gc) (k0_pay51 g) (k0_pay50 g io pt q qt gc) := by
  subst ht
  exact ((((h.step hg hio 13 rfl slices_S24x256_o13_0_S1x256 slices_S24x24_o0_13_S24x1).step hg hio 14 rfl
    slices_S24x256_o14_0_S1x256 slices_S24x24_o0_14_S24x1).step hg hio 15 rfl slices_S24x256_o15_0_S1x256
    slices_S24x24_o0_15_S24x1).step hg hio 16 rfl slices_S24x256_o16_0_S1x256 slices_S24x24_o0_16_S24x1)

theorem part6 {t : Fin 24} {pt q gc qt} (ht : t = 16) (h : St G p t pt q gc qt) :
    St G p 20 (k0_pay58 g pt q gc) (k0_pay59 g pt q gc) (k0_pay61 g) (k0_pay60 g io pt q qt gc) := by
  subst ht
  exact ((((h.step hg hio 17 rfl slices_S24x256_o17_0_S1x256 slices_S24x24_o0_17_S24x1).step hg hio 18 rfl
    slices_S24x256_o18_0_S1x256 slices_S24x24_o0_18_S24x1).step hg hio 19 rfl slices_S24x256_o19_0_S1x256
    slices_S24x24_o0_19_S24x1).step hg hio 20 rfl slices_S24x256_o20_0_S1x256 slices_S24x24_o0_20_S24x1)

/-- The coefficients after the last step, transposed. -/
theorem part7 {t : Fin 24} {pt q gc qt} (ht : t = 20) (h : St G p t pt q gc qt) (c : Fin 256) (r : Fin 24) :
    k0_pay62 g io pt q qt gc (ix2 c r) = ((2 * prodAt G p r r c : ℝ) : EReal) := by
  subst ht
  have h3 := (((h.step hg hio 21 rfl slices_S24x256_o21_0_S1x256 slices_S24x24_o0_21_S24x1).step hg hio 22 rfl
    slices_S24x256_o22_0_S1x256 slices_S24x24_o0_22_S24x1).step hg hio 23 rfl slices_S24x256_o23_0_S1x256
    (by decide)).qt r c
  rw [if_pos (by rw [Fin.le_def]; show r.val ≤ 23; omega)] at h3
  rw [← h3]
  unfold k0_pay62
  have e : ∀ v : FVec Ideal S24x256 .f32,
      transpose S256x24 [1, 0] v transposes_S24x256_p1_0_S256x24 (ix2 c r) = v (ix2 r c) := by intro v; pointwise
  exact e _

end parts

/-! ## The start -/

section start

variable (u : Vec Ideal S24x7168 .f32) (x : Vec Ideal S256x7168 .bf16) {U : Fin 24 → Fin 7168 → ℝ} {X : Fin 256 → Fin 7168 → ℝ}
  (hU : ∀ r k, k0_pay1 u (ix2 r k) = ((U r k : ℝ) : EReal)) (hX : ∀ c k, x (ix2 c k) = ((X c k : ℝ) : EReal))

/-- The Gram matrix. -/
def gram (U : Fin 24 → Fin 7168 → ℝ) (r s : Fin 24) : ℝ := ∑ k, U r k * U s k
/-- The products of the unit vectors with the rows of `x`. -/
def prods (U : Fin 24 → Fin 7168 → ℝ) (X : Fin 256 → Fin 7168 → ℝ) (r : Fin 24) (c : Fin 256) : ℝ := ∑ k, U r k * X c k

include hU
theorem pay2_apply (r k) : k0_pay2 u (ix2 r k) = ((U r k : ℝ) : EReal) := by
  unfold k0_pay2; pointwise; exact hU r k
theorem pay3_apply (r k) : k0_pay3 u (ix2 r k) = 0 := by
  unfold k0_pay3; pointwise; rw [pay2_apply u hU, hU, ← EReal.coe_sub, sub_self, EReal.coe_zero]
theorem pay4_apply (r k) : k0_pay4 u (ix2 r k) = 0 := by
  unfold k0_pay4; pointwise; exact pay3_apply u hU r k
theorem pay5_apply (r k) : k0_pay5 u (ix2 r k) = 0 := by
  unfold k0_pay5; pointwise; rw [pay4_apply u hU, pay3_apply u hU, sub_zero]

theorem pay6_apply (r s) : k0_pay6 u (ix2 r s) = ((gram U r s : ℝ) : EReal) := by
  unfold k0_pay6; pointwise
  simp only [pay2_apply u hU, pay4_apply u hU, pay5_apply u hU, mul_zero, zero_mul, Finset.sum_const_zero, add_zero,
    ← EReal.coe_mul, coe_sum, gram]

include hX
theorem pay7_apply (c k) : k0_pay7 x (ix2 c k) = ((X c k : ℝ) : EReal) := by
  unfold k0_pay7; pointwise; exact hX c k

theorem pay8_apply (r c) : k0_pay8 u x (ix2 r c) = ((prods U X r c : ℝ) : EReal) := by
  unfold k0_pay8; pointwise
  simp only [pay2_apply u hU, pay4_apply u hU, pay5_apply u hU, pay7_apply u x hU hX, mul_zero, zero_mul, Finset.sum_const_zero, add_zero,
    ← EReal.coe_mul, coe_sum, prods]

theorem start : St (gram U) (prods U X) 0 (k0_pay8 u x) (k0_pay9 u x) (k0_pay11 u) (k0_pay10 u x) := by
  have e9 : ∀ c, k0_pay9 u x (ix2 0 c) = ((2 * prods U X 0 c : ℝ) : EReal) := by
    intro c; unfold k0_pay9; pointwise; rw [pay8_apply u x hU hX, ofBits_two, ← EReal.coe_mul]
  refine ⟨pay8_apply u x hU hX, e9, fun r => ?_, fun r c => ?_⟩
  · unfold k0_pay11; pointwise; exact pay6_apply u hU r 0
  · unfold k0_pay10; pointwise
    have e : k0_pay9 u x (ix2 0 c) = _ := e9 c
    rw [e]
    by_cases hr : r = 0
    · subst hr; simp [Scalar.select, IntOp.cmpi, prodAt]
    · have h1 : r.val ≠ 0 := fun e => hr (Fin.ext e)
      have h2 := cmpi_eq_ofNat r.val 0 (by omega) (by omega)
      rw [if_neg h1] at h2
      have h3 : ¬ r ≤ 0 := fun h => hr (Fin.le_zero_iff.mp h)
      rw [h2, if_neg h3]; rfl

/-- The row indices the kernel selects by. -/
abbrev rows : IVec S24x256 32 := iota .tc S24x256 32 [0] iota_S24x256_d0_w32

omit hU hX in
theorem rows_apply (r c) : rows (ix2 r c) = BitVec.ofNat 32 r.val := by pointwise; try rfl

/-- The kernel's last group of steps and the combination that it takes off `x`. -/
abbrev finish (u : Vec Ideal S24x7168 .f32) (x : Vec Ideal S256x7168 .bf16) (g : FVec Ideal S24x24 .f32) (io : IVec S24x256 32)
    (pt : FVec Ideal S24x256 .f32) (q : FVec Ideal S1x256 .f32) (qt : FVec Ideal S24x256 .f32) (gc : FVec Ideal S24x1 .f32) :
    FVec Ideal S256x7168 .bf16 :=
  k0_pay68 (k0_pay2 u) (k0_pay4 u) (k0_pay5 u) (k0_pay7 x) (k0_pay63 g io pt q qt gc) (k0_pay65 g io pt q qt gc)
    (k0_pay66 g io pt q qt gc) (k0_pay67 (k0_pay2 u) (k0_pay4 u) g io pt q qt gc)

theorem finish_apply {g : FVec Ideal S24x24 .f32} {io : IVec S24x256 32}
    {pt : FVec Ideal S24x256 .f32} {q : FVec Ideal S1x256 .f32} {qt : FVec Ideal S24x256 .f32} {gc : FVec Ideal S24x1 .f32}
    {Q : Fin 24 → Fin 256 → ℝ} (hq : ∀ c r, k0_pay62 g io pt q qt gc (ix2 c r) = ((Q r c : ℝ) : EReal))
    (c : Fin 256) (k : Fin 7168) :
    finish u x g io pt q qt gc (ix2 c k) = ((X c k - ∑ r : Fin 24, Q r c * U r k : ℝ) : EReal) := by
  have e63 : ∀ c r, k0_pay63 g io pt q qt gc (ix2 c r) = ((Q r c : ℝ) : EReal) := by
    intro c r; unfold k0_pay63; pointwise; exact hq c r
  have e64 : ∀ c r, k0_pay64 g io pt q qt gc (ix2 c r) = 0 := by
    intro c r; unfold k0_pay64; pointwise; rw [hq, e63, ← EReal.coe_sub, sub_self, EReal.coe_zero]
  have e65 : ∀ c r, k0_pay65 g io pt q qt gc (ix2 c r) = 0 := by
    intro c r; unfold k0_pay65; pointwise; exact e64 c r
  have e66 : ∀ c r, k0_pay66 g io pt q qt gc (ix2 c r) = 0 := by
    intro c r; unfold k0_pay66; pointwise; rw [e64, e65, sub_zero]
  unfold finish k0_pay68 k0_pay67
  pointwise
  simp only [e63, e65, e66, pay2_apply u hU, pay4_apply u hU, pay5_apply u hU, pay7_apply u x hU hX, mul_zero, zero_mul, Finset.sum_const_zero, add_zero,
    ← EReal.coe_mul, coe_sum, ← EReal.coe_sub]

/-- The reflected activations, as the kernel computes them. -/
def zbK (u : Vec Ideal S24x7168 .f32) (x : Vec Ideal S256x7168 .bf16) : FVec Ideal S256x7168 .bf16 :=
  let g := k0_pay6 u
  let pt2 := k0_pay18 g (k0_pay8 u x) (k0_pay9 u x) (k0_pay11 u)
  let q2 := k0_pay19 g (k0_pay8 u x) (k0_pay9 u x) (k0_pay11 u)
  let qt2 := k0_pay20 g (k0_pay8 u x) rows (k0_pay9 u x) (k0_pay10 u x) (k0_pay11 u)
  let g2 := k0_pay21 g
  let pt3 := k0_pay28 g pt2 q2 g2
  let q3 := k0_pay29 g pt2 q2 g2
  let qt3 := k0_pay30 g rows pt2 q2 qt2 g2
  let g3 := k0_pay31 g
  let pt4 := k0_pay38 g pt3 q3 g3
  let q4 := k0_pay39 g pt3 q3 g3
  let qt4 := k0_pay40 g rows pt3 q3 qt3 g3
  let g4 := k0_pay41 g
  let pt5 := k0_pay48 g pt4 q4 g4
  let q5 := k0_pay49 g pt4 q4 g4
  let qt5 := k0_pay50 g rows pt4 q4 qt4 g4
  let g5 := k0_pay51 g
  finish u x g rows (k0_pay58 g pt5 q5 g5) (k0_pay59 g pt5 q5 g5) (k0_pay60 g rows pt5 q5 qt5 g5) (k0_pay61 g)

/-- What the kernel stores: each row of `x` less its combination of the unit vectors. -/
theorem zbK_apply (c : Fin 256) (k : Fin 7168) : zbK u x (ix2 c k)
    = ((X c k - ∑ r : Fin 24, (2 * prodAt (gram U) (prods U X) r r c) * U r k : ℝ) : EReal) := by
  have hg := pay6_apply u hU
  have hio := rows_apply
  have h6 := part6 hg hio rfl (part5 hg hio rfl (part4 hg hio rfl (part3 hg hio rfl (part2 hg hio rfl (start u x hU hX)))))
  exact finish_apply (Q := fun r c => 2 * prodAt (gram U) (prods U X) r r c) u x hU hX (part7 hg hio rfl h6) c k

end start

end Cert.KernelIdeal.Steps

end
-- ==== Proof.TileSum.lean ====
/-
   What the kernel's body computes into one output tile: 28 chunks of 256 input features, each the product of a chunk
   of the reflected activations with the dequantized weights of that chunk, added in order.
-/
module

public import proofs.«01_k».proof.Proof.Gen.KernelIdeal.Skeleton
public import Idealize.ShloMosaic.Lib.Pipeline.FrameBody

@[expose] public section

noncomputable section

namespace Cert.KernelIdeal.Tile

open Cert.KernelIdeal Cert.KernelIdeal.Gen
open Idealize.ShloMosaic

variable {F : FTy → Type} [FloatOps F]

/-- The 4-bit codes of 256 rows, from the 128 rows of bytes that hold them: the low half of a byte is the even row,
    the high half the odd one. -/
abbrev codes (b : Vec F S128x512 .i8) : IVec S256x512 4 := k0_pay72 b

/-- A group's 128 rows of weights, from their codes and the group's zero points and scales. -/
abbrev group (q : IVec S128x512 4) (z : Vec F S1x512 .i8) (s : Vec F S1x512 .bf16) : FVec F S128x512 .bf16 :=
  mulf (subf (uitofp .bf16 q) (broadcastTo S128x512 (uitofp .bf16 z : FVec F S1x512 .bf16) broadcasts_S1x512_S128x512))
    (broadcastTo S128x512 s broadcasts_S1x512_S128x512)

/-- The 256 rows of weights of one chunk: two groups. -/
def weights (b : Vec F S128x512 .i8) (z0 : Vec F S1x512 .i8) (s0 : Vec F S1x512 .bf16) (z1 : Vec F S1x512 .i8) (s1 : Vec F S1x512 .bf16) :
    FVec F S256x512 .bf16 :=
  concatenate S256x512 0
    [⟨S128x512, group (extractStridedSlice S128x512 ![0, 0] (codes b) slices_S256x512_o0_0_S128x512) z0 s0⟩,
     ⟨S128x512, group (extractStridedSlice S128x512 ![128, 0] (codes b) slices_S256x512_o128_0_S128x512) z1 s1⟩]
    concatenates_S128x512_S128x512_S256x512_d0

/-- One chunk's product. -/
def chunk (b : Vec F S128x512 .i8) (z0 : Vec F S1x512 .i8) (s0 : Vec F S1x512 .bf16) (z1 : Vec F S1x512 .i8) (s1 : Vec F S1x512 .bf16)
    (a : Vec F S256x256 .bf16) : FVec F S256x512 .f32 :=
  matmul dot_S256x256_S256x512_S256x512_1_0_0_1_n_n none (shapeCast S256x256 a shapeCasts_S256x256_S256x256) (weights b z0 s0 z1 s1)
    (constant S256x512 .f32 0x00000000#32)

theorem inb2 {n0 n1 m0 m1 o0 o1 : ℕ} (h0 : o0 + m0 ≤ n0) (h1 : o1 + m1 ≤ n1) :
    ∀ j : Fin 2, (![o0, o1] : Fin 2 → ℕ) j + (![m0, m1] : Fin 2 → ℕ) j ≤ (![n0, n1] : Fin 2 → ℕ) j := by
  intro j; fin_cases j <;> assumption

section

variable (b : Vec F S3584x512 .i8) (s : Vec F S56x512 .bf16) (z : Vec F S56x512 .i8) (a : Vec F S256x7168 .bf16)

/-- Row `r` of the scales, and of the zero points. -/
abbrev rowS (r : ℕ) (h : r < 56) : Vec F S1x512 .bf16 :=
  View.ld s (Rect.unit (s := S56x512) ![r, 0] S1x512.size (inb2 (by omega) (by omega)))
abbrev rowZ (r : ℕ) (h : r < 56) : Vec F S1x512 .i8 :=
  View.ld z (Rect.unit (s := S56x512) ![r, 0] S1x512.size (inb2 (by omega) (by omega)))

/-- Chunk `n` of the tile: 128 rows of bytes, two groups, 256 columns of activations. -/
def chunkAt (n : ℕ) (h : n < 28) : FVec F S256x512 .f32 :=
  chunk (View.ld b (Rect.unit (s := S3584x512) ![128 * n, 0] S128x512.size (inb2 (by omega) (by omega))))
    (rowZ z (2 * n) (by omega)) (rowS s (2 * n) (by omega)) (rowZ z (2 * n + 1) (by omega)) (rowS s (2 * n + 1) (by omega))
    (View.ld a (Rect.unit (s := S256x7168) ![0, 256 * n] S256x256.size (inb2 (by omega) (by omega))))

/-- The chunks up to the `n`-th, added in order. -/
def acc : (n : ℕ) → n < 28 → FVec F S256x512 .f32
  | 0, h => chunkAt b s z a 0 h
  | n + 1, h => addf (acc n (Nat.lt_of_succ_lt h)) (chunkAt b s z a (n + 1) h)

/-- The tile. -/
def tile : FVec F S256x512 .bf16 := truncf .bf16 (acc b s z a 27 (by omega)) bitsLt_bf16_f32

end

end Cert.KernelIdeal.Tile

end
-- ==== Proof.KernelBlocks.lean ====
/-
   What the body's two runs leave in the output buffers: the reflected activations at the first point, and at every
   point the tile of the product computed from them.
-/
module

public import proofs.«01_k».proof.Proof.KernelFrame
public import proofs.«01_k».proof.Proof.KernelRefl
public import proofs.«01_k».proof.Proof.TileSum
public import Idealize.ShloMosaic.Lib.Pipeline.ValueKit
public import Idealize.ShloMosaic.Lib.Pipeline.ReadBack

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

set_option maxHeartbeats 1000000

section

variable (c : Dev nD) (i : grid0.Coords) (arg1 : Memref sig .tc .vmem S256x7168 .bf16) (harg1 : arg1.IsWhole) (arg2 : Memref sig .tc .vmem S24x7168 .f32) (harg2 : arg2.IsWhole) (arg3 : Memref sig .tc .vmem S3584x512 .i8) (harg3 : arg3.IsWhole) (arg4 : Memref sig .tc .vmem S56x512 .bf16) (harg4 : arg4.IsWhole) (arg5 : Memref sig .tc .vmem S56x512 .i8) (harg5 : arg5.IsWhole) (arg6 : Memref sig .tc .vmem S256x512 .bf16) (harg6 : arg6.IsWhole) (arg7 : Memref sig .tc .vmem S256x7168 .bf16) (harg7 : arg7.IsWhole)
  (x0 : Vec Ideal S256x7168 .bf16) (x1 : Vec Ideal S24x7168 .f32) (x2 : Vec Ideal S3584x512 .i8) (x3 : Vec Ideal S56x512 .bf16) (x4 : Vec Ideal S56x512 .i8)

/-- At a later point the tile is that of the activations found in window 6. -/
theorem out0_B_5_eq (hc0 : ¬ cond0_0 i) (xo6 : Vec Ideal S256x7168 .bf16) :
    out0_B_5 c i arg1 harg1 arg2 harg2 arg3 harg3 arg4 harg4 arg5 harg5 arg6 harg6 arg7 harg7 hc0 x0 x1 x2 x3 x4 xo6 = Tile.tile x2 x3 x4 xo6 := by
  unfold out0_B_5 runB
  frame_out
  rfl

/-- The first point leaves the reflected activations in window 6. -/
theorem out0_A_6_eq (hc0 : cond0_0 i) :
    out0_A_6 c i arg1 harg1 arg2 harg2 arg3 harg3 arg4 harg4 arg5 harg5 arg6 harg6 arg7 harg7 hc0 x0 x1 x2 x3 x4 = Steps.zbK x1 x0 := by
  unfold out0_A_6 runA
  frame_out
  rfl

/-- The first point's tile is that of the activations it has just computed. -/
theorem out0_A_5_eq (hc0 : cond0_0 i) :
    out0_A_5 c i arg1 harg1 arg2 harg2 arg3 harg3 arg4 harg4 arg5 harg5 arg6 harg6 arg7 harg7 hc0 x0 x1 x2 x3 x4 = Tile.tile x2 x3 x4 (Steps.zbK x1 x0) := by
  unfold out0_A_5 runA
  frame_open
  simp (disch := decide) only [↓ View.readCov_fill]
  frame_out
  generalize hZ : k0_pay68 (F := Ideal) _ _ _ _ _ _ _ _ = Z
  obtain rfl : Steps.zbK x1 x0 = Z := hZ
  rfl

end

end Cert.KernelIdeal.Run

end
-- ==== Proof.Product.lean ====
/-
   The linear layer as one sum over the 7168 input features, and that both programs' sums are re-orderings of it.
-/
module

public import proofs.«01_k».proof.Proof.TileSum
public import proofs.«01_k».proof.Proof.Gen.ReferenceIdeal.Skeleton
public import Idealize.ShloMosaic.Lib.Pointwise

@[expose] public section

set_option maxRecDepth 16384

noncomputable section

namespace Cert.Product

open Idealize.ShloMosaic

/-! ## The mathematics -/

/-- The 4-bit code of feature `k`'s parity in a byte: the low half for an even feature, the high half for an odd one. -/
def nibble (v : BitVec 8) (p : ℕ) : ℕ := if p = 0 then v.toNat % 16 else v.toNat / 16

/-- The dequantized weight of feature `k` for output `j`: its code less its group's zero point, times its group's scale.
    A byte holds features `2 i` and `2 i + 1`; a group is 128 features. -/
def weight {n : ℕ} (b : Vec Ideal ⟨2, ![3584, n]⟩ .i8) (s : Vec Ideal ⟨2, ![56, n]⟩ .bf16) (z : Vec Ideal ⟨2, ![56, n]⟩ .i8)
    (k : Fin 7168) (j : Fin n) : EReal :=
  (((nibble (b (ix2 (⟨k.val / 2, by omega⟩ : Fin 3584) j)) (k.val % 2) : ℝ) : EReal)
      - (((z (ix2 (⟨k.val / 128, by omega⟩ : Fin 56) j) : BitVec 8).toNat : ℝ) : EReal))
    * s (ix2 (⟨k.val / 128, by omega⟩ : Fin 56) j)

/-- The same, with the byte's row, the parity and the group named. -/
theorem weight_eq {n : ℕ} (b : Vec Ideal ⟨2, ![3584, n]⟩ .i8) (s : Vec Ideal ⟨2, ![56, n]⟩ .bf16) (z : Vec Ideal ⟨2, ![56, n]⟩ .i8)
    (k : Fin 7168) (j : Fin n) (r : Fin 3584) (p : ℕ) (g : Fin 56) (hr : k.val / 2 = r.val) (hp : k.val % 2 = p) (hg : k.val / 128 = g.val) :
    weight b s z k j = (((nibble (b (ix2 r j)) p : ℝ) : EReal) - (((z (ix2 g j) : BitVec 8).toNat : ℝ) : EReal)) * s (ix2 g j) := by
  obtain ⟨r, _⟩ := r
  obtain ⟨g, _⟩ := g
  dsimp only at hr hg
  subst hr hp hg
  rfl

/-- Row `i` of the activations against column `j` of the weights. -/
def product {n : ℕ} (a : Vec Ideal ⟨2, ![256, 7168]⟩ .bf16) (b : Vec Ideal ⟨2, ![3584, n]⟩ .i8) (s : Vec Ideal ⟨2, ![56, n]⟩ .bf16)
    (z : Vec Ideal ⟨2, ![56, n]⟩ .i8) (i : Fin 256) (j : Fin n) : EReal :=
  ∑ k : Fin 7168, a (ix2 i k) * weight b s z k j

/-- A sum over `m * n` indices, by rows of `n`. -/
theorem sum_rows {M : Type*} [AddCommMonoid M] (m n : ℕ) (f : Fin (m * n) → M) :
    ∑ k, f k = ∑ i : Fin m, ∑ j : Fin n, f ⟨i.val * n + j.val, by
      have h1 := i.isLt; have h2 := j.isLt
      calc i.val * n + j.val < i.val * n + n := by omega
        _ = (i.val + 1) * n := by ring
        _ ≤ m * n := Nat.mul_le_mul_right n h1⟩ := by
  rw [← finProdFinEquiv.sum_comp, Fintype.sum_prod_type]
  refine Finset.sum_congr rfl fun i _ => Finset.sum_congr rfl fun j _ => congrArg f (Fin.ext ?_)
  simp only [finProdFinEquiv_apply_val]
  ring

/-- By pairs: the even features and the odd ones. -/
theorem sum_pairs (f : Fin 7168 → EReal) :
    ∑ k, f k = ∑ x : Fin 3584, f ⟨x.val * 2, by omega⟩ + ∑ x : Fin 3584, f ⟨x.val * 2 + 1, by omega⟩ := by
  rw [sum_rows 3584 2 f, ← Finset.sum_add_distrib]
  exact Finset.sum_congr rfl fun x _ => by rw [Fin.sum_univ_two]; rfl

/-- By chunks of two groups. -/
theorem sum_chunks (f : Fin 7168 → EReal) :
    ∑ k, f k = ∑ n : Fin 28, (∑ x : Fin 128, f ⟨256 * n.val + x.val, by omega⟩ + ∑ x : Fin 128, f ⟨256 * n.val + (128 + x.val), by omega⟩) := by
  rw [sum_rows 28 256 f]
  refine Finset.sum_congr rfl fun n _ => ?_
  rw [sum_rows 2 128 (fun j : Fin 256 => f ⟨n.val * 256 + j.val, by omega⟩), Fin.sum_univ_two]
  congr 1 <;> refine Finset.sum_congr rfl fun x _ => congrArg f (Fin.ext ?_)
  · show n.val * 256 + (0 * 128 + x.val) = 256 * n.val + x.val; omega
  · show n.val * 256 + (1 * 128 + x.val) = 256 * n.val + (128 + x.val); omega

/-! ## The codes -/

theorem low_trunc (v : BitVec 8) : (BitVec.setWidth 4 (IntOp.andi (BitVec.setWidth 32 v) 15#32)).toNat = v.toNat % 16 := by
  revert v; decide +kernel

theorem high_trunc (v : BitVec 8) : (BitVec.setWidth 4 (IntOp.shrsi ArithUnit.vector (BitVec.setWidth 32 v) 4#32)).toNat = v.toNat / 16 := by
  revert v; decide +kernel

theorem low_int (v : BitVec 8) : (IntOp.andi (BitVec.setWidth 32 v) 15#32).toInt = ((v.toNat % 16 : ℕ) : ℤ) := by
  revert v; decide +kernel

theorem high_int (v : BitVec 8) : (IntOp.shrsi ArithUnit.vector (BitVec.setWidth 32 v) 4#32).toInt = ((v.toNat / 16 : ℕ) : ℤ) := by
  revert v; decide +kernel

theorem low_float (v : BitVec 8) :
    (FloatOps.sitofp FTy.bf16 (IntOp.andi (BitVec.setWidth 32 v) 15#32) : Ideal .bf16) = ((nibble v 0 : ℝ) : EReal) := by
  show (((IntOp.andi (BitVec.setWidth 32 v) 15#32).toInt : ℝ) : EReal) = _
  rw [low_int, Int.cast_natCast]
  rfl

theorem high_float (v : BitVec 8) :
    (FloatOps.sitofp FTy.bf16 (IntOp.shrsi ArithUnit.vector (BitVec.setWidth 32 v) 4#32) : Ideal .bf16) = ((nibble v 1 : ℝ) : EReal) := by
  show (((IntOp.shrsi ArithUnit.vector (BitVec.setWidth 32 v) 4#32).toInt : ℝ) : EReal) = _
  rw [high_int, Int.cast_natCast]
  rfl

end Cert.Product

/-! ## The kernel's tile -/

namespace Cert.KernelIdeal.Tile

open Cert.KernelIdeal Cert.KernelIdeal.Gen Cert.Product
open Idealize.ShloMosaic

theorem codes_toNat (b : Vec Ideal S128x512 .i8) (k : Fin 256) (j : Fin 512) :
    (codes (F := Ideal) b (ix2 k j)).toNat = nibble (b (ix2 (⟨k.val / 2, by omega⟩ : Fin 128) j)) (k.val % 2) := by
  unfold codes k0_pay72
  pointwise
  unfold nibble
  by_cases h : k.val % 2 = 0
  · rw [dif_pos (by omega), if_pos h]; exact low_trunc _
  · rw [dif_neg (by omega), if_neg h]; exact high_trunc _

theorem chunk_apply (b : Vec Ideal S128x512 .i8) (z0 : Vec Ideal S1x512 .i8) (s0 : Vec Ideal S1x512 .bf16) (z1 : Vec Ideal S1x512 .i8) (s1 : Vec Ideal S1x512 .bf16)
    (a : Vec Ideal S256x256 .bf16) (i : Fin 256) (j : Fin 512) : chunk b z0 s0 z1 s1 a (ix2 i j)
      = ∑ x : Fin 128, a (ix2 i (⟨x.val, by omega⟩ : Fin 256)) *
          ((((nibble (b (ix2 (⟨x.val / 2, by omega⟩ : Fin 128) j)) (x.val % 2) : ℝ) : EReal) - (((z0 (ix2 (0 : Fin 1) j) : BitVec 8).toNat : ℝ) : EReal))
            * s0 (ix2 (0 : Fin 1) j))
        + ∑ x : Fin 128, a (ix2 i (⟨128 + x.val, by omega⟩ : Fin 256)) *
          ((((nibble (b (ix2 (⟨(128 + x.val) / 2, by omega⟩ : Fin 128) j)) ((128 + x.val) % 2) : ℝ) : EReal) - (((z1 (ix2 (0 : Fin 1) j) : BitVec 8).toNat : ℝ) : EReal))
            * s1 (ix2 (0 : Fin 1) j)) := by
  have e : ∀ k : Fin 256, (nibble (b (ix2 (⟨k.val / 2, by omega⟩ : Fin 128) j)) (k.val % 2) : ℝ)
      = ((codes (F := Ideal) b (ix2 k j)).toNat : ℝ) := fun k => by rw [codes_toNat]
  have e0 := fun x : Fin 128 => e ⟨x.val, by omega⟩
  have e1 := fun x : Fin 128 => e ⟨128 + x.val, by omega⟩
  dsimp only at e0 e1
  simp only [e0, e1]
  unfold chunk weights group
  generalize hq : codes (F := Ideal) b = q
  pointwise
  rfl

theorem acc_apply (b : Vec Ideal S3584x512 .i8) (s : Vec Ideal S56x512 .bf16) (z : Vec Ideal S56x512 .i8) (a : Vec Ideal S256x7168 .bf16)
    (n : ℕ) (h : n < 28) (j : S256x512.Idx) :
    acc b s z a n h j = ∑ m : Fin (n + 1), chunkAt b s z a m.val (by omega) j := by
  induction n with
  | zero => simp [acc]
  | succ n ih =>
    rw [Fin.sum_univ_castSucc]
    show acc b s z a n _ j + chunkAt b s z a (n + 1) h j = _
    rw [ih]
    rfl

/-- The tile is the product. -/
theorem tile_apply (b : Vec Ideal S3584x512 .i8) (s : Vec Ideal S56x512 .bf16) (z : Vec Ideal S56x512 .i8) (a : Vec Ideal S256x7168 .bf16)
    (i : Fin 256) (j : Fin 512) : tile b s z a (ix2 i j) = product a b s z i j := by
  show acc b s z a 27 _ (ix2 i j) = _
  rw [acc_apply, product, sum_chunks]
  refine Finset.sum_congr rfl fun n _ => ?_
  unfold chunkAt
  rw [chunk_apply]
  unfold rowS rowZ
  pointwise
  congr 1 <;> refine Finset.sum_congr rfl fun x _ => ?_
  · congr 1
    exact (weight_eq b s z _ j ⟨128 * n.val + x.val / 2, by omega⟩ _ ⟨2 * n.val, by omega⟩ (by dsimp only; omega) (by dsimp only; omega) (by dsimp only; omega)).symm
  · congr 1
    exact (weight_eq b s z _ j ⟨128 * n.val + (128 + x.val) / 2, by omega⟩ _ ⟨2 * n.val + 1, by omega⟩ (by dsimp only; omega) (by dsimp only; omega) (by dsimp only; omega)).symm

end Cert.KernelIdeal.Tile

/-! ## The reference's product -/

namespace Cert.ReferenceIdeal.Linear

open Cert.ReferenceIdeal Cert.ReferenceIdeal.Gen Cert.Product
open Idealize.ShloMosaic

theorem low_apply (b : Vec Ideal S3584x18432 .i8) (s : Vec Ideal S56x18432 .bf16) (z : Vec Ideal S56x18432 .i8) (x : Fin 3584) (j : Fin 18432) :
    k0_pay23 (F := Ideal) b s z (ix2 x j) = weight b s z ⟨x.val * 2, by omega⟩ j := by
  rw [weight_eq b s z ⟨x.val * 2, by omega⟩ j x 0 ⟨x.val / 64, by omega⟩ (by dsimp only; omega) (by dsimp only; omega) (by dsimp only; omega)]
  unfold k0_pay23 k0_pay22
  pointwise
  rw [low_float]
  rfl

theorem high_apply (b : Vec Ideal S3584x18432 .i8) (g : Fin 56) (r : Fin 64) (j : Fin 18432) :
    k0_pay24 (F := Ideal) b (ix3 g r j) = ((nibble (b (ix2 (⟨g.val * 64 + r.val, by omega⟩ : Fin 3584) j)) 1 : ℝ) : EReal) := by
  unfold k0_pay24 k0_pay22
  pointwise
  rw [high_float]

/-- The two half products, from the even weights and the odd codes. -/
theorem halves_apply (a : Vec Ideal S256x7168 .bf16) (w : FVec Ideal S3584x18432 .bf16) (s : Vec Ideal S56x18432 .bf16) (z : Vec Ideal S56x18432 .i8)
    (q : FVec Ideal S56x64x18432 .bf16) (i : Fin 256) (j : Fin 18432) :
    k0_pay1 (F := Ideal) a w s z q (ix2 i j)
      = ∑ x : Fin 3584, a (ix2 i (⟨x.val * 2, by omega⟩ : Fin 7168)) * w (ix2 x j)
        + ∑ x : Fin 3584, a (ix2 i (⟨x.val * 2 + 1, by omega⟩ : Fin 7168))
          * ((q (ix3 (⟨x.val / 64, by omega⟩ : Fin 56) (⟨x.val % 64, by omega⟩ : Fin 64) j)
              - (((z (ix2 (⟨x.val / 64, by omega⟩ : Fin 56) j) : BitVec 8).toNat : ℝ) : EReal))
            * s (ix2 (⟨x.val / 64, by omega⟩ : Fin 56) j)) := by
  unfold k0_pay1
  pointwise
  rfl

/-- The reference's second result is the product. -/
theorem y_apply (a : Vec Ideal S256x7168 .bf16) (b : Vec Ideal S3584x18432 .i8) (s : Vec Ideal S56x18432 .bf16) (z : Vec Ideal S56x18432 .i8)
    (i : Fin 256) (j : Fin 18432) :
    k0_pay1 (F := Ideal) a (k0_pay23 b s z) s z (k0_pay24 b) (ix2 i j) = product a b s z i j := by
  rw [halves_apply, product, sum_pairs]
  simp only [low_apply, high_apply]
  refine congrArg₂ (· + ·) rfl (Finset.sum_congr rfl fun x _ => congrArg₂ (· * ·) rfl ?_)
  exact (weight_eq b s z ⟨x.val * 2 + 1, by omega⟩ j ⟨x.val / 64 * 64 + x.val % 64, by omega⟩ 1 ⟨x.val / 64, by omega⟩ (by dsimp only; omega) (by dsimp only; omega) (by dsimp only; omega)).symm

end Cert.ReferenceIdeal.Linear

end
-- ==== Proof.KernelArrays.lean ====
/-
   The kernel's two result arrays after the run, as functions of its arguments.
-/
module

public import proofs.«01_k».proof.Proof.KernelBlocks
public import proofs.«01_k».proof.Proof.Product
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (c : Dev nD)

/-- The arguments. -/
abbrev argX : Vec Ideal S2x128x7168 .bf16 := m ((c : Thread nD τ).loc main_arg0)
abbrev argU : Vec Ideal S24x7168 .f32 := m ((c : Thread nD τ).loc main_arg1)
abbrev argB : Vec Ideal S3584x18432 .i8 := m ((c : Thread nD τ).loc main_arg2)
abbrev argS : Vec Ideal S56x18432 .bf16 := m ((c : Thread nD τ).loc main_arg3)
abbrev argZ : Vec Ideal S56x18432 .i8 := m ((c : Thread nD τ).loc main_arg4)

/-- `x` with its two leading axes merged. -/
abbrev rowsX : Vec Ideal S256x7168 .bf16 := shapeCast S256x7168 (argX m c) shapeCasts_S2x128x7168_S256x7168

/-- Where each window's block lies. -/
theorem index_facts : ∀ t : Fin cfg0.N, win0_0.index t = ![0, 0] ∧ win0_1.index t = ![0, 0] ∧ win0_2.index t = ![0, t.val]
    ∧ win0_3.index t = ![0, t.val] ∧ win0_4.index t = ![0, t.val] ∧ win0_5.index t = ![0, t.val] :=
  (by decide +kernel : ∀ t : Fin grid0.N, win0_0.index t = ![0, 0] ∧ win0_1.index t = ![0, 0] ∧ win0_2.index t = ![0, t.val]
    ∧ win0_3.index t = ![0, t.val] ∧ win0_4.index t = ![0, t.val] ∧ win0_5.index t = ![0, t.val])

theorem V_main_v0 : V m c main_v0 = rowsX m c := by
  entry_read
  rfl

/-- The block of `x` is all of it. -/
theorem blk_x (t : Fin cfg0.N) : iblk m c 0 t = rowsX m c := by
  funext y
  rw [← V_main_v0]
  have h := (index_facts t).1
  blk_ext [iblk, h]

theorem blk_u (t : Fin cfg0.N) : iblk m c 1 t = argU m c := by
  funext y
  rw [argU, ← V_main_arg1 m c]
  have h := (index_facts t).2.1
  blk_ext [iblk, h]

/-- Column `j` of tile `t`, in the whole array. -/
abbrev col (t : Fin cfg0.N) (j : Fin 512) : Fin 18432 :=
  ⟨t.val * 512 + j.val, by have ht : t.val < 36 := Nat.lt_of_lt_of_eq t.isLt N_0; omega⟩

theorem blk_b (t : Fin cfg0.N) (r : Fin 3584) (j : Fin 512) : iblk m c 2 t (ix2 r j) = argB m c (ix2 r (col t j)) := by
  rw [argB, ← V_main_arg2 m c]
  have h := (index_facts t).2.2.1
  blk_ext [iblk, h]

theorem blk_s (t : Fin cfg0.N) (r : Fin 56) (j : Fin 512) : iblk m c 3 t (ix2 r j) = argS m c (ix2 r (col t j)) := by
  rw [argS, ← V_main_arg3 m c]
  have h := (index_facts t).2.2.2.1
  blk_ext [iblk, h]

theorem blk_z (t : Fin cfg0.N) (r : Fin 56) (j : Fin 512) : iblk m c 4 t (ix2 r j) = argZ m c (ix2 r (col t j)) := by
  rw [argZ, ← V_main_arg4 m c]
  have h := (index_facts t).2.2.2.2.1
  blk_ext [iblk, h]

/-- The reflected activations of the run. -/
abbrev zb : Vec Ideal S256x7168 .bf16 := Steps.zbK (argU m c) (rowsX m c)

theorem zbAt_eq : zbAt m c = zb m c := by
  unfold zbAt
  dsimp only
  rw [out0_A_6_eq, blk_x, blk_u]

theorem tileAt_eq (t : Fin cfg0.N) : tileAt m c t = Tile.tile (iblk m c 2 t) (iblk m c 3 t) (iblk m c 4 t) (zb m c) := by
  by_cases h0 : t.val % 36 = 0
  · rw [tileAt_A m c t h0, out0_A_5_eq, blk_x, blk_u]
  · rw [tileAt_B m c t h0, out0_B_5_eq, zbAt_eq]

theorem tileAt_apply (t : Fin cfg0.N) (i : Fin 256) (j : Fin 512) :
    tileAt m c t (ix2 i j) = Product.product (zb m c) (argB m c) (argS m c) (argZ m c) i (col t j) := by
  rw [tileAt_eq, Tile.tile_apply]
  unfold Product.product Product.weight
  simp only [blk_b, blk_s, blk_z]

/-- The first result: the product of the reflected activations with the weights. -/
theorem final5 : (dats m 0 c).arrAt 5 cfg0.N
    = fun j : S256x18432.Idx => Product.product (zb m c) (argB m c) (argS m c) (argZ m c) (j 0) (j 1) := by
  refine (dats m 0 c).arrAt_eq_of_covers 5 _ (by decide +kernel) fun t hf y => ?_
  have h := (index_facts t).2.2.2.2.2
  blk_simp [h]
  rw [after0_5]
  obtain ⟨i, j, rfl⟩ : ∃ (i : Fin 256) (j : Fin 512), y = ix2 i j := ⟨y 0, y 1, eq_ix2 y⟩
  rw [tileAt_apply]
  have e0 : (win0_5.blk t).view.emb (ix2 i j) 0 = i := Fin.ext (by blk_simp [h])
  have e1 : (win0_5.blk t).view.emb (ix2 i j) 1 = col t j := Fin.ext (by blk_simp [h])
  rw [e0, e1]

/-- The last grid point. -/
abbrev tLast : Fin cfg0.N := ⟨35, Nat.lt_of_lt_of_eq (by decide : 35 < 36) N_0.symm⟩

/-- The second result: the reflected activations. -/
theorem final6 : (dats m 0 c).arrAt 6 cfg0.N = zb m c := by
  refine (dats m 0 c).arrAt_eq_of_after_last 6 tLast (by decide +kernel) _ fun j => ?_
  rw [after0_6, zbAt_eq]
  rfl

end Cert.KernelIdeal.Run

end
-- ==== Proof.RefSolve.lean ====
/-
   The reference's back substitution, read over the reals: `S T = 1` row by row from the last, `S` upper triangular with
   one half on its diagonal.
-/
module

public import proofs.«01_k».proof.Proof.Gen.ReferenceIdeal.Skeleton
public import proofs.«01_k».proof.Proof.Reals

@[expose] public section

set_option maxRecDepth 16384

noncomputable section

namespace Cert.ReferenceIdeal.Solve

open Cert.ReferenceIdeal Cert.ReferenceIdeal.Gen
open Idealize.ShloMosaic Cert.Reals

/-- Row `k` of the inverse, from the rows below it. -/
abbrev solveRow (k : ℕ) (h1 : S24x24.Slices ![k, 0] S1x24) (h2 : S24x24.Slices ![k, k] S1x1) (eye s X : FVec Ideal S24x24 .f32) :
    FVec Ideal S1x24 .f32 :=
  divf (subf (extractStridedSlice S1x24 ![k, 0] eye h1)
    (matmul dot_S1x24_S24x24_S1x24_1_0_0_1_n_n (some .fp32) (extractStridedSlice S1x24 ![k, 0] s h1) X
      (constant S1x24 .f32 0x00000000#32)))
    (broadcastTo S1x24 (extractStridedSlice S1x1 ![k, k] s h2) broadcasts_S1x1_S1x24)

/-- The rows found so far with row `k` set. -/
abbrev setRow (k : ℕ) (io : IVec S24x24 32) (row : FVec Ideal S1x24 .f32) (X : FVec Ideal S24x24 .f32) : FVec Ideal S24x24 .f32 :=
  select (cmpi .eq io (broadcast S24x24 (BitVec.ofNat 32 k)))
    (broadcastTo S24x24 (shapeCast S1x24 row shapeCasts_S1x24_S1x24) broadcasts_S1x24_S24x24) X

/-- Rows `n` and later of `X` are those of the inverse of `S`, and the earlier rows are zero. -/
def Solved (S : Fin 24 → Fin 24 → ℝ) (n : ℕ) (X : FVec Ideal S24x24 .f32) : Prop :=
  ∃ T : Fin 24 → Fin 24 → ℝ, (∀ i l, X (ix2 i l) = ((T i l : ℝ) : EReal)) ∧ (∀ i l, i.val < n → T i l = 0)
    ∧ ∀ i l, n ≤ i.val → ∑ j, S i j * T j l = if i = l then 1 else 0

/-- A real divided by one half. -/
theorem div_half (a : ℝ) : Ideal.div (a : EReal) ((1 / 2 : ℝ) : EReal) = ((2 * a : ℝ) : EReal) := by
  have h : (((1 / 2 : ℝ) : EReal)) ≠ 0 := by
    rw [← EReal.coe_zero, Ne, EReal.coe_eq_coe_iff]; norm_num
  unfold Ideal.div
  rw [if_neg h, ← EReal.coe_inv, ← EReal.coe_mul]
  congr 1; ring

/-- Setting one more row. -/
theorem Solved.step {S : Fin 24 → Fin 24 → ℝ} (hup : ∀ i j, j < i → S i j = 0) (hdiag : ∀ i, S i i = 1 / 2)
    {eye s : FVec Ideal S24x24 .f32} (heye : ∀ i l, eye (ix2 i l) = (((if i = l then 1 else 0) : ℝ) : EReal))
    (hs : ∀ i l, s (ix2 i l) = ((S i l : ℝ) : EReal)) {io : IVec S24x24 32}
    (hio : ∀ i l, io (ix2 i l) = BitVec.ofNat 32 i.val) (k : Fin 24) {n : ℕ} (hn : n = k.val + 1)
    (h1 : S24x24.Slices ![k.val, 0] S1x24) (h2 : S24x24.Slices ![k.val, k.val] S1x1)
    {X : FVec Ideal S24x24 .f32} (h : Solved S n X) :
    Solved S k.val (setRow k io (solveRow k h1 h2 eye s X) X) := by
  obtain ⟨T, hT, hz, hi⟩ := h
  have hrow : ∀ l, solveRow k h1 h2 eye s X (ix2 0 l)
      = ((2 * ((if k = l then 1 else 0) - ∑ j, S k j * T j l) : ℝ) : EReal) := by
    intro l
    pointwise
    simp only [heye, hs, hT, hdiag, ← EReal.coe_mul, coe_sum, ← EReal.coe_sub]
    exact div_half _
  refine ⟨fun i l => if i = k then 2 * ((if k = l then 1 else 0) - ∑ j, S k j * T j l) else T i l, fun i l => ?_,
    fun i l hik => ?_, fun i l hki => ?_⟩
  · have e := hrow l
    generalize solveRow k h1 h2 eye s X = row at e ⊢
    pointwise
    rw [e, hio, cmpi_eq_ofNat _ _ (by omega) (by omega), hT]
    by_cases hik : i = k
    · subst hik; simp [Scalar.select]
    · have h1 : i.val ≠ k.val := fun e => hik (Fin.ext e)
      simp [Scalar.select, h1, hik]
  · beta_reduce
    rw [if_neg (fun e : i = k => by rw [e] at hik; exact lt_irrefl _ hik)]
    exact hz i l (by omega)
  · beta_reduce
    by_cases hik : i = k
    · subst hik
      rw [← Finset.add_sum_erase _ _ (Finset.mem_univ i), if_pos rfl, hdiag]
      have e2 : ∑ j ∈ Finset.univ.erase i, S i j * (if j = i then 2 * ((if i = l then 1 else 0) - ∑ j, S i j * T j l) else T j l)
          = ∑ j, S i j * T j l := by
        rw [← Finset.add_sum_erase Finset.univ (fun j => S i j * T j l) (Finset.mem_univ i), hz i l (by omega), mul_zero, zero_add]
        exact Finset.sum_congr rfl fun j hj => by rw [if_neg (Finset.ne_of_mem_erase hj)]
      rw [e2]; ring
    · have hlt : k < i := by
        rw [Fin.lt_def]; rcases Nat.lt_or_eq_of_le hki with h | h
        · exact h
        · exact absurd (Fin.ext h.symm) hik
      rw [← hi i l (by rw [hn]; exact hlt)]
      refine Finset.sum_congr rfl fun j _ => ?_
      by_cases hj : j = k
      · subst hj; rw [hup i j hlt, zero_mul, zero_mul]
      · rw [if_neg hj]

end Cert.ReferenceIdeal.Solve

end
-- ==== Proof.RefRefl.lean ====
/-
   The reflected activations that the reference computes, over the reals, where the unit vectors and `x` are real.
-/
module

public import proofs.«01_k».proof.Proof.RefSolve

@[expose] public section

set_option maxRecDepth 16384

noncomputable section

namespace Cert.ReferenceIdeal.Solve

open Cert.ReferenceIdeal Cert.ReferenceIdeal.Gen
open Idealize.ShloMosaic Cert.Reals

/-! ## The solve, group by group -/

section groups

variable {S : Fin 24 → Fin 24 → ℝ} (hup : ∀ i j, j < i → S i j = 0) (hdiag : ∀ i, S i i = 1 / 2)
    {eye s : FVec Ideal S24x24 .f32} (heye : ∀ i l, eye (ix2 i l) = (((if i = l then 1 else 0) : ℝ) : EReal))
    (hs : ∀ i l, s (ix2 i l) = ((S i l : ℝ) : EReal)) {io : IVec S24x24 32}
    (hio : ∀ i l, io (ix2 i l) = BitVec.ofNat 32 i.val)
include hup hdiag heye hs hio

/-- Before the first row, nothing is solved. -/
theorem solved24 : Solved S 24 (broadcast S24x24 (Scalar.ofBits (F := Ideal) .f32 0x00000000#32)) :=
  ⟨fun _ _ => 0, fun i l => by pointwise; simp, fun _ _ _ => rfl, fun i l h => absurd i.isLt (by omega)⟩

theorem group2 {X : FVec Ideal S24x24 .f32} (h : Solved S 23 X) :
    Solved S 19 (k0_pay7 eye s io X (solveRow 22 slices_S24x24_o22_0_S1x24 slices_S24x24_o22_22_S1x1 eye s X) 22#32) :=
  (((h.step hup hdiag heye hs hio 22 rfl slices_S24x24_o22_0_S1x24 slices_S24x24_o22_22_S1x1).step hup hdiag heye hs hio 21 rfl slices_S24x24_o21_0_S1x24 slices_S24x24_o21_21_S1x1).step hup hdiag heye hs hio 20 rfl slices_S24x24_o20_0_S1x24 slices_S24x24_o20_20_S1x1).step hup hdiag heye hs hio 19 rfl slices_S24x24_o19_0_S1x24 slices_S24x24_o19_19_S1x1

theorem group3 {X : FVec Ideal S24x24 .f32} {row : FVec Ideal S1x24 .f32} (h : Solved S 19 (k0_pay7 eye s io X row 22#32)) :
    Solved S 14 (k0_pay10 eye s io (k0_pay7 eye s io X row 22#32) (k0_pay8 io) (k0_pay9 eye s io X row 22#32)) :=
  ((((h.step hup hdiag heye hs hio 18 rfl slices_S24x24_o18_0_S1x24 slices_S24x24_o18_18_S1x1).step hup hdiag heye hs hio 17 rfl slices_S24x24_o17_0_S1x24 slices_S24x24_o17_17_S1x1).step hup hdiag heye hs hio 16 rfl slices_S24x24_o16_0_S1x24 slices_S24x24_o16_16_S1x1).step hup hdiag heye hs hio 15 rfl slices_S24x24_o15_0_S1x24 slices_S24x24_o15_15_S1x1).step hup hdiag heye hs hio 14 rfl slices_S24x24_o14_0_S1x24 slices_S24x24_o14_14_S1x1

theorem group4 {X : FVec Ideal S24x24 .f32} (h : Solved S 14 X) :
    Solved S 10 (k0_pay13 eye s io X (k0_pay11 eye) (k0_pay12 s) (constant S1x24 .f32 0x00000000#32)) :=
  (((h.step hup hdiag heye hs hio 13 rfl slices_S24x24_o13_0_S1x24 slices_S24x24_o13_13_S1x1).step hup hdiag heye hs hio 12 rfl slices_S24x24_o12_0_S1x24 slices_S24x24_o12_12_S1x1).step hup hdiag heye hs hio 11 rfl slices_S24x24_o11_0_S1x24 slices_S24x24_o11_11_S1x1).step hup hdiag heye hs hio 10 rfl slices_S24x24_o10_0_S1x24 slices_S24x24_o10_10_S1x1

theorem group5 {X : FVec Ideal S24x24 .f32} {a b c : FVec Ideal S1x24 .f32} (h : Solved S 10 (k0_pay13 eye s io X a b c)) :
    Solved S 6 (k0_pay16 eye s io (k0_pay13 eye s io X a b c) (k0_pay14 eye s io X a b c) (k0_pay15 s)) :=
  (((h.step hup hdiag heye hs hio 9 rfl slices_S24x24_o9_0_S1x24 slices_S24x24_o9_9_S1x1).step hup hdiag heye hs hio 8 rfl slices_S24x24_o8_0_S1x24 slices_S24x24_o8_8_S1x1).step hup hdiag heye hs hio 7 rfl slices_S24x24_o7_0_S1x24 slices_S24x24_o7_7_S1x1).step hup hdiag heye hs hio 6 rfl slices_S24x24_o6_0_S1x24 slices_S24x24_o6_6_S1x1

theorem group6 {X : FVec Ideal S24x24 .f32} {a b : FVec Ideal S1x24 .f32} (h : Solved S 6 (k0_pay16 eye s io X a b)) :
    Solved S 1 (k0_pay19 eye s io (k0_pay16 eye s io X a b) (k0_pay17 eye s io X a b) (k0_pay18 io)) :=
  ((((h.step hup hdiag heye hs hio 5 rfl slices_S24x24_o5_0_S1x24 slices_S24x24_o5_5_S1x1).step hup hdiag heye hs hio 4 rfl slices_S24x24_o4_0_S1x24 slices_S24x24_o4_4_S1x1).step hup hdiag heye hs hio 3 rfl slices_S24x24_o3_0_S1x24 slices_S24x24_o3_3_S1x1).step hup hdiag heye hs hio 2 rfl slices_S24x24_o2_0_S1x24 slices_S24x24_o2_2_S1x1).step hup hdiag heye hs hio 1 rfl slices_S24x24_o1_0_S1x24 slices_S24x24_o1_1_S1x1

end groups

/-! ## The reference's operands -/

section start

variable (u : Vec Ideal S24x7168 .f32) (x : Vec Ideal S256x7168 .bf16) {U : Fin 24 → Fin 7168 → ℝ} {X : Fin 256 → Fin 7168 → ℝ}
  (hU : ∀ r k, k0_pay2 u (ix2 r k) = ((U r k : ℝ) : EReal)) (hX : ∀ c k, x (ix2 c k) = ((X c k : ℝ) : EReal))

/-- The triangular matrix: one half on the diagonal, the Gram matrix above it. -/
def tri (U : Fin 24 → Fin 7168 → ℝ) (i l : Fin 24) : ℝ :=
  if i = l then 1 / 2 else if i < l then ∑ k, U i k * U l k else 0

theorem tri_lower (i l : Fin 24) (h : l < i) : tri U i l = 0 := by
  rw [tri, if_neg (ne_of_gt h), if_neg (not_lt_of_gt h)]
theorem tri_diag (i : Fin 24) : tri U i i = 1 / 2 := if_pos rfl

/-- The row indices the reference selects by. -/
abbrev rows : IVec S24x24 32 := iota .tc S24x24 32 [0] iota_S24x24_d0_w32

theorem rows_apply (i l) : rows (ix2 i l) = BitVec.ofNat 32 i.val := by pointwise; try rfl

theorem eye_apply (i l : Fin 24) : k0_pay3 (F := Ideal) (ix2 i l) = (((if i = l then 1 else 0) : ℝ) : EReal) := by
  unfold k0_pay3; pointwise
  have h0 : IntOp.addi (BitVec.ofNat 32 i.val) 0#32 = BitVec.ofNat 32 i.val := BitVec.add_zero _
  rw [h0, cmpi_eq_ofNat _ _ (by omega) (by omega)]
  by_cases h : i = l
  · subst h; rw [if_pos rfl, if_pos rfl]; show (((BitVec.setWidth 32 1#1).toInt : ℝ) : EReal) = _; norm_num
  · rw [if_neg (fun e => h (Fin.ext e)), if_neg h]; show (((BitVec.setWidth 32 0#1).toInt : ℝ) : EReal) = _; norm_num

include hU
theorem s_apply (i l : Fin 24) : k0_pay4 u (ix2 i l) = ((tri U i l : ℝ) : EReal) := by
  unfold k0_pay4; pointwise
  rw [eye_apply, ofBits_half, ← EReal.coe_mul]
  simp only [hU, ← EReal.coe_mul, coe_sum]
  have h0 : IntOp.addi (BitVec.ofNat 32 i.val) 0#32 = BitVec.ofNat 32 i.val := BitVec.add_zero _
  have h1 : IntOp.cmpi .sge (BitVec.ofNat 32 i.val) (BitVec.ofNat 32 l.val) = if l ≤ i then 1#1 else 0#1 := by
    revert i l; decide +kernel
  rw [h0, h1, tri]
  rcases lt_trichotomy i l with h | h | h
  · rw [if_neg (ne_of_lt h), if_neg (ne_of_lt h), if_pos h, if_neg (not_le_of_gt h)]
    simp [Scalar.select]
  · subst h; simp [Scalar.select]
  · rw [if_neg (ne_of_gt h), if_neg (ne_of_gt h), if_neg (not_lt_of_gt h), if_pos (le_of_lt h)]
    simp [Scalar.select]

/-- The inverse, as the reference computes it. -/
def inv (u : Vec Ideal S24x7168 .f32) : FVec Ideal S24x24 .f32 :=
  let eye := k0_pay3 (F := Ideal)
  let s := k0_pay4 u
  let X7 := k0_pay7 eye s rows (k0_pay5 u) (k0_pay6 u) 22#32
  let X10 := k0_pay10 eye s rows X7 (k0_pay8 rows) (k0_pay9 eye s rows (k0_pay5 u) (k0_pay6 u) 22#32)
  let z : FVec Ideal S1x24 .f32 := constant S1x24 .f32 0x00000000#32
  let X13 := k0_pay13 eye s rows X10 (k0_pay11 eye) (k0_pay12 s) z
  let X16 := k0_pay16 eye s rows X13 (k0_pay14 eye s rows X10 (k0_pay11 eye) (k0_pay12 s) z) (k0_pay15 s)
  k0_pay19 eye s rows X16 (k0_pay17 eye s rows X13 (k0_pay14 eye s rows X10 (k0_pay11 eye) (k0_pay12 s) z) (k0_pay15 s)) (k0_pay18 rows)

theorem inv_solved : Solved (tri U) 1 (inv u) := by
  have hup := tri_lower (U := U)
  have hdiag := tri_diag (U := U)
  have heye := eye_apply
  have hs := s_apply u hU
  have hio := rows_apply
  have h23 : Solved (tri U) 23 (k0_pay5 u) := (solved24 hup hdiag heye hs hio).step hup hdiag heye hs hio 23 rfl slices_S24x24_o23_0_S1x24 slices_S24x24_o23_23_S1x1
  exact group6 hup hdiag heye hs hio (group5 hup hdiag heye hs hio (group4 hup hdiag heye hs hio
    (group3 hup hdiag heye hs hio (group2 hup hdiag heye hs hio h23))))

/-- `x` less the combination of the unit vectors that the matrix `T` gives. -/
abbrev reflectBy (uh : FVec Ideal S24x7168 .f32) (T : FVec Ideal S24x24 .f32) (x : Vec Ideal S256x7168 .bf16) : FVec Ideal S256x7168 .bf16 :=
  have x' : FVec Ideal S256x7168 .f32 := extf .f32 (shapeCast S256x7168 x shapeCasts_S256x7168_S256x7168) bitsLt_bf16_f32
  truncf .bf16 (subf x' (matmul dot_S256x24_S24x7168_S256x7168_1_0_0_1_n_n (some .fp32)
    (matmul dot_S256x24_S24x24_S256x24_1_0_0_1_n_n (some .fp32)
      (matmul dot_S256x7168_S24x7168_S256x24_1_1_0_0_n_n (some .fp32) x' uh (constant S256x24 .f32 0x00000000#32))
      T (constant S256x24 .f32 0x00000000#32)) uh (constant S256x7168 .f32 0x00000000#32))) bitsLt_bf16_f32

/-- The reflected activations, as the reference computes them. -/
def zbR (u : Vec Ideal S24x7168 .f32) (x : Vec Ideal S256x7168 .bf16) : FVec Ideal S256x7168 .bf16 :=
  k0_pay21 (k0_pay2 u) (k0_pay4 u) rows (inv u) (k0_pay20 (k0_pay3 (F := Ideal))) x

include hX
theorem reflectBy_apply {Y : FVec Ideal S24x24 .f32} {T : Fin 24 → Fin 24 → ℝ} (hT : ∀ i l, Y (ix2 i l) = ((T i l : ℝ) : EReal))
    (c : Fin 256) (k : Fin 7168) : reflectBy (k0_pay2 u) Y x (ix2 c k)
      = ((X c k - ∑ r : Fin 24, (∑ s : Fin 24, (∑ k : Fin 7168, X c k * U s k) * T s r) * U r k : ℝ) : EReal) := by
  pointwise [reflectBy]
  simp only [hX, hU, hT, ← EReal.coe_mul, coe_sum, ← EReal.coe_sub]

/-- What the reference stores: each row of `x` less its combination of the unit vectors, by the inverse `T` of `tri U`. -/
theorem zbR_apply : ∃ T : Fin 24 → Fin 24 → ℝ, (∀ i l, ∑ j, tri U i j * T j l = if i = l then 1 else 0)
    ∧ ∀ (c : Fin 256) (k : Fin 7168), zbR u x (ix2 c k)
      = ((X c k - ∑ r : Fin 24, (∑ s : Fin 24, (∑ k : Fin 7168, X c k * U s k) * T s r) * U r k : ℝ) : EReal) := by
  obtain ⟨T, hT, -, hi⟩ := (inv_solved u hU).step tri_lower tri_diag eye_apply (s_apply u hU) rows_apply 0 rfl slices_S24x24_o0_0_S1x24 slices_S24x24_o0_0_S1x1
  refine ⟨T, fun i l => hi i l (Nat.zero_le _), fun c k => ?_⟩
  exact reflectBy_apply u x hU hX hT c k

end start

end Cert.ReferenceIdeal.Solve

end
-- ==== Proof.RefArrays.lean ====
/-
   The reference's two result arrays after the run, as functions of its arguments.
-/
module

public import proofs.«01_k».proof.Proof.Gen.ReferenceIdeal.Value
public import proofs.«01_k».proof.Proof.RefRefl
public import proofs.«01_k».proof.Proof.Product
public import Idealize.ShloMosaic.Lib.Claim
public import Idealize.ShloMosaic.Lib.Pipeline.ValueKit

@[expose] public section

set_option maxRecDepth 16384

noncomputable section

namespace Cert.ReferenceIdeal.Run

open Cert.ReferenceIdeal Cert.ReferenceIdeal.Gen
open Idealize.ShloMosaic Idealize.ShloMosaic.TcCoe
open Idealize.ShloMosaic.Pipeline (Dat)

variable (m : (ℓ : Loc nD τ sig) → Buf (Elt Ideal) ℓ) (c : Dev nD)

/-- The arguments. -/
abbrev argX : Vec Ideal S2x128x7168 .bf16 := m ((c : Thread nD τ).loc main_arg0)
abbrev argU : Vec Ideal S24x7168 .f32 := m ((c : Thread nD τ).loc main_arg1)
abbrev argB : Vec Ideal S3584x18432 .i8 := m ((c : Thread nD τ).loc main_arg2)
abbrev argS : Vec Ideal S56x18432 .bf16 := m ((c : Thread nD τ).loc main_arg3)
abbrev argZ : Vec Ideal S56x18432 .i8 := m ((c : Thread nD τ).loc main_arg4)

/-- `x` with its two leading axes merged. -/
abbrev rowsX : Vec Ideal S256x7168 .bf16 := shapeCast S256x7168 (argX m c) shapeCasts_S2x128x7168_S256x7168

/-- Every window's block is its whole array. -/
theorem index_facts : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0])

theorem V_main_v0 : V m c main_v0 = rowsX m c := by
  entry_read
  rfl

theorem blk_x (t : Fin cfg0.N) : iblk m c 0 t = rowsX m c := by
  funext y
  rw [← V_main_v0]
  have h := (index_facts t).1
  blk_ext [iblk, h]

theorem blk_u (t : Fin cfg0.N) : iblk m c 1 t = argU m c := by
  funext y
  rw [argU, ← V_main_arg1 m c]
  have h := (index_facts t).2.1
  blk_ext [iblk, h]

theorem blk_b (t : Fin cfg0.N) : iblk m c 2 t = argB m c := by
  funext y
  rw [argB, ← V_main_arg2 m c]
  have h := (index_facts t).2.2.1
  blk_ext [iblk, h]

theorem blk_s (t : Fin cfg0.N) : iblk m c 3 t = argS m c := by
  funext y
  rw [argS, ← V_main_arg3 m c]
  have h := (index_facts t).2.2.2.1
  blk_ext [iblk, h]

theorem blk_z (t : Fin cfg0.N) : iblk m c 4 t = argZ m c := by
  funext y
  rw [argZ, ← V_main_arg4 m c]
  have h := (index_facts t).2.2.2.2.1
  blk_ext [iblk, h]

/-- The reflected activations of the run. -/
abbrev zb : Vec Ideal S256x7168 .bf16 := Solve.zbR (argU m c) (rowsX m c)

section

variable (x0 : Vec Ideal S256x7168 .bf16) (x1 : Vec Ideal S24x7168 .f32) (x2 : Vec Ideal S3584x18432 .i8) (x3 : Vec Ideal S56x18432 .bf16)
  (x4 : Vec Ideal S56x18432 .i8)

/-- The body's loads are of whole blocks. -/
theorem ld_x (x0 : Vec Ideal S256x7168 .bf16) : View.ld x0 r0_1 = x0 := View.ld_unit_lit _ _ (by decide)
theorem ld_u (x1 : Vec Ideal S24x7168 .f32) : View.ld x1 r0_0 = x1 := View.ld_unit_lit _ _ (by decide)
theorem ld_b (x2 : Vec Ideal S3584x18432 .i8) : View.ld x2 r0_2 = x2 := View.ld_unit_lit _ _ (by decide)
theorem ld_s (x3 : Vec Ideal S56x18432 .bf16) : View.ld x3 r0_3 = x3 := View.ld_unit_lit _ _ (by decide)
theorem ld_z (x4 : Vec Ideal S56x18432 .i8) : View.ld x4 r0_3 = x4 := View.ld_unit_lit _ _ (by decide)

/-- What the body stores into window 6. -/
theorem pay37_eq : k0_pay37 x0 x1 x2 x3 x4 = Solve.zbR x1 x0 := by
  simp only [k0_pay37, k0_pay36, k0_pay35, k0_pay34, k0_pay33, k0_pay32, k0_pay31, k0_pay30, k0_pay29, k0_pay28, k0_pay27, k0_pay26,
    k0_pay25, ld_x, ld_u, Solve.zbR, Solve.inv, Solve.rows]

theorem out0_6_eq : out0_6 x0 x1 x2 x3 x4 = Solve.zbR x1 x0 := by
  rw [← pay37_eq x0 x1 x2 x3 x4]
  unfold out0_6
  exact View.canon_cons_unit_lit _ _ _ (by decide)

theorem out0_5_apply (i : Fin 256) (j : Fin 18432) : out0_5 x0 x1 x2 x3 x4 (ix2 i j) = Product.product (Solve.zbR x1 x0) x2 x3 x4 i j := by
  rw [← Linear.y_apply, ← pay37_eq x0 x1 x2 x3 x4]
  unfold out0_5
  generalize k0_pay37 x0 x1 x2 x3 x4 = a
  rw [ld_b, ld_s, ld_z]
  exact congrFun (View.canon_cons_unit_lit _ _ _ (by decide)) _

end

/-- The only grid point. -/
abbrev tOnly : Fin cfg0.N := ⟨0, Nat.lt_of_lt_of_eq (by decide : 0 < 1) N_0.symm⟩

/-- The first result: the product of the reflected activations with the weights. -/
theorem final5 : (dats m 0 c).arrAt 5 cfg0.N
    = fun j : S256x18432.Idx => Product.product (zb m c) (argB m c) (argS m c) (argZ m c) (j 0) (j 1) := by
  refine (dats m 0 c).arrAt_eq_of_covers 5 _ (by decide +kernel) fun t hf y => ?_
  have h := (index_facts t).2.2.2.2.2
  blk_simp [h]
  rw [after0_5, blk_x, blk_u, blk_b, blk_s, blk_z]
  obtain ⟨i, j, rfl⟩ : ∃ (i : Fin 256) (j : Fin 18432), y = ix2 i j := ⟨y 0, y 1, eq_ix2 y⟩
  rw [out0_5_apply]
  have e0 : (win0_5.blk t).view.emb (ix2 i j) 0 = i := Fin.ext (by blk_simp [h])
  have e1 : (win0_5.blk t).view.emb (ix2 i j) 1 = j := Fin.ext (by blk_simp [h])
  rw [e0, e1]

/-- The second result: the reflected activations. -/
theorem final6 : (dats m 0 c).arrAt 6 cfg0.N = zb m c := by
  refine (dats m 0 c).arrAt_eq_of_after_last 6 tOnly (by decide +kernel) _ fun j => ?_
  rw [after0_6, out0_6_eq, blk_x, blk_u]
  rfl

end Cert.ReferenceIdeal.Run

end
-- ==== Proof.ReflEq.lean ====
/-
   The kernel's and the reference's reflected activations are the same array where the unit vectors and `x` are real:
   the forward recurrence solves the triangular system that the reference inverts.
-/
module

public import proofs.«01_k».proof.Proof.KernelRefl
public import proofs.«01_k».proof.Proof.RefRefl

@[expose] public section

noncomputable section

namespace Cert.Refl

open Cert.KernelIdeal.Steps Cert.ReferenceIdeal.Solve
open Idealize.ShloMosaic

/-- After `t` steps each product has lost the multiples of the first `t` columns. -/
theorem prodAt_eq (G : Fin 24 → Fin 24 → ℝ) (p : Fin 24 → Fin 256 → ℝ) (c : Fin 256) (t : ℕ) (ht : t ≤ 24) (r : Fin 24) :
    prodAt G p t r c = p r c - ∑ j : Fin 24, if j.val < t then G r j * (2 * prodAt G p j j c) else 0 := by
  induction t with
  | zero => simp [prodAt]
  | succ t ih =>
    have h : t < 24 := by omega
    have e : ∀ j : Fin 24, (if j.val < t + 1 then G r j * (2 * prodAt G p j j c) else 0)
        = (if j.val < t then G r j * (2 * prodAt G p j j c) else 0)
          + if j = ⟨t, h⟩ then G r j * (2 * prodAt G p j j c) else 0 := by
      intro j
      rcases lt_trichotomy j.val t with h1 | h1 | h1
      · rw [if_pos (by omega), if_pos h1, if_neg (fun e => by rw [e] at h1; exact lt_irrefl _ h1), add_zero]
      · rw [if_pos (by omega), if_neg (by omega), if_pos (Fin.ext h1), zero_add]
      · rw [if_neg (by omega), if_neg (by omega), if_neg (fun e => by rw [e] at h1; exact lt_irrefl _ h1), add_zero]
    simp only [prodAt, dif_pos h, ih (by omega), e, Finset.sum_add_distrib, Finset.sum_ite_eq', Finset.mem_univ, if_true]
    ring

/-- The recurrence's coefficients are those of the inverse. -/
theorem coeff_eq {U : Fin 24 → Fin 7168 → ℝ} {X : Fin 256 → Fin 7168 → ℝ} {T : Fin 24 → Fin 24 → ℝ}
    (hT : ∀ i l, ∑ j, tri U i j * T j l = if i = l then 1 else 0) (c : Fin 256) (r : Fin 24) :
    ∑ s : Fin 24, (∑ k : Fin 7168, X c k * U s k) * T s r = 2 * prodAt (gram U) (prods U X) r r c := by
  set Q : Fin 24 → ℝ := fun j => 2 * prodAt (gram U) (prods U X) j j c with hQ
  have hp : ∀ s : Fin 24, ∑ k : Fin 7168, X c k * U s k = ∑ j, Q j * tri U j s := by
    intro s
    have e := prodAt_eq (gram U) (prods U X) c s.val (by omega) s
    have e1 : ∑ k : Fin 7168, X c k * U s k = prods U X s c := Finset.sum_congr rfl fun k _ => mul_comm _ _
    have e2 : ∀ j : Fin 24, Q j * tri U j s = (if j = s then Q j / 2 else 0) + if j.val < s.val then gram U s j * Q j else 0 := by
      intro j
      rw [tri]
      rcases lt_trichotomy j s with h | h | h
      · have g : ∑ k, U j k * U s k = gram U s j := Finset.sum_congr rfl fun k _ => mul_comm _ _
        rw [if_neg (ne_of_lt h), if_pos h, if_neg (ne_of_lt h), if_pos (show j.val < s.val from h), g]; ring
      · subst h; rw [if_pos rfl, if_pos rfl, if_neg (lt_irrefl _)]; ring
      · rw [if_neg (ne_of_gt h), if_neg (not_lt_of_gt h), if_neg (ne_of_gt h), if_neg (show ¬ j.val < s.val from not_lt_of_gt h)]; ring
    rw [e1]
    simp only [e2, Finset.sum_add_distrib, Finset.sum_ite_eq', Finset.mem_univ, if_true]
    have e3 : Q s = 2 * prodAt (gram U) (prods U X) s s c := rfl
    rw [e3, e]
    ring
  simp only [hp, Finset.sum_mul]
  rw [Finset.sum_comm]
  have e4 : ∀ j : Fin 24, ∑ s : Fin 24, Q j * tri U j s * T s r = if j = r then Q j else 0 := by
    intro j
    simp only [mul_assoc, ← Finset.mul_sum, hT]
    split <;> simp
  simp only [e4, Finset.sum_ite_eq', Finset.mem_univ, if_true]
  rfl

/-- The two arrays agree. -/
theorem zb_eq (u : Vec Ideal Cert.KernelIdeal.S24x7168 .f32) (x : Vec Ideal Cert.KernelIdeal.S256x7168 .bf16)
    {U : Fin 24 → Fin 7168 → ℝ} {X : Fin 256 → Fin 7168 → ℝ}
    (hU : ∀ r k, Cert.KernelIdeal.Gen.k0_pay1 u (ix2 r k) = ((U r k : ℝ) : EReal))
    (hX : ∀ c k, x (ix2 c k) = ((X c k : ℝ) : EReal)) : zbK u x = zbR u x := by
  obtain ⟨T, hT, hz⟩ := zbR_apply u x (U := U) (X := X) hU hX
  funext j
  obtain ⟨c, k, rfl⟩ : ∃ (c : Fin 256) (k : Fin 7168), j = ix2 c k := ⟨j 0, j 1, eq_ix2 j⟩
  rw [zbK_apply u x hU hX]
  refine Eq.trans ?_ (hz c k).symm
  simp only [coeff_eq hT]

end Cert.Refl

end
-- ==== Proof.Units.lean ====
/-
   The precondition read at an element, and what it gives: `x` is real, and so is every entry of the unit vectors.
-/
module

public import proofs.«01_k».proof.Proof.KernelRefl
public import proofs.«01_k».proof.Pre_finite_and_nonzero_rows
public import Idealize.ShloMosaic.Lib.Pointwise

@[expose] public section

noncomputable section

namespace Cert.Units

open Idealize.ShloMosaic Cert.Reals

instance preFacts : Cert.Pre_finite_and_nonzero_rows.Facts where
  bcast_S_S2x128x7168 := by decide
  reducesTo_S24x7168_S24_d1 := by decide
  h_S_ := by decide
  bcast_S_S24 := by decide

theorem real_of_ne {a : EReal} (h1 : a ≠ ⊤) (h2 : a ≠ ⊥) : ∃ r : ℝ, a = (r : EReal) := ⟨_, (EReal.coe_toReal h1 h2).symm⟩

open Cert.Pre_finite_and_nonzero_rows in
/-- Every entry of `x` is real. -/
theorem pre_x {x u b s z} (h : (fn (F := Ideal) x u b s z).1 = fun _ => 1#1) (j : S2x128x7168.Idx) : ∃ r : ℝ, x j = (r : EReal) := by
  have h' := congrFun h j
  unfold fn at h'
  pointwise at h'
  rw [ofBits_inf] at h'
  have hlt : max (x j) (-x j) < ⊤ := by
    by_contra hn
    have e : decide (FloatOps.absf (x j) < (⊤ : EReal)) = false := decide_eq_false hn
    rw [e] at h'
    exact absurd h' (by decide)
  obtain ⟨h1, h2⟩ := max_lt_iff.mp hlt
  exact real_of_ne (ne_of_lt h1) fun e => by rw [e] at h2; exact lt_irrefl _ h2

open Cert.Pre_finite_and_nonzero_rows in
/-- No row of `u` is zero. -/
theorem pre_u {x u b s z} (h : (fn (F := Ideal) x u b s z).2 = fun _ => 1#1) (r : Fin 24) :
    0 < ∑ k : Fin 7168, u (ix2 r k) * u (ix2 r k) := by
  have h' := congrFun h (ix1 r)
  unfold fn at h'
  pointwise at h'
  by_contra hn
  rw [decide_eq_false hn] at h'
  exact absurd h' (by decide)

/-- An entry of the unit vectors. -/
theorem unit_apply (u : Vec Ideal Cert.KernelIdeal.S24x7168 .f32) (r : Fin 24) (k : Fin 7168) :
    Cert.KernelIdeal.Gen.k0_pay1 u (ix2 r k) = Ideal.div (u (ix2 r k)) (Ideal.sqrt (∑ l : Fin 7168, u (ix2 r l) * u (ix2 r l))) := by
  unfold Cert.KernelIdeal.Gen.k0_pay1
  pointwise

theorem sq_nonneg (a : EReal) : 0 ≤ a * a := by
  induction a with
  | bot => simp
  | top => simp
  | coe a => rw [← EReal.coe_mul]; exact_mod_cast _root_.mul_self_nonneg a

/-- A vector divided by its length is real, when the length is not zero: an infinite length gives zeros. -/
theorem div_length_real (v : Fin 7168 → EReal) (h : 0 < ∑ l, v l * v l) (k : Fin 7168) :
    ∃ a : ℝ, Ideal.div (v k) (Ideal.sqrt (∑ l, v l * v l)) = (a : EReal) := by
  by_cases ht : ∑ l, v l * v l = ⊤
  · rw [ht]
    refine ⟨0, ?_⟩
    have e : Ideal.sqrt ⊤ = ⊤ := rfl
    rw [e]
    unfold Ideal.div
    simp
  · have hle : v k * v k ≤ ∑ l, v l * v l := Finset.single_le_sum (fun l _ => sq_nonneg (v l)) (Finset.mem_univ k)
    have hlt : v k * v k < ⊤ := lt_of_le_of_lt hle (lt_top_iff_ne_top.mpr ht)
    have hv : ∃ a : ℝ, v k = (a : EReal) :=
      real_of_ne (fun e => by rw [e] at hlt; simp at hlt) (fun e => by rw [e] at hlt; simp at hlt)
    obtain ⟨a, ha⟩ := hv
    obtain ⟨s, hs⟩ : ∃ s : ℝ, ∑ l, v l * v l = (s : EReal) := ⟨_, (EReal.coe_toReal ht (ne_of_gt (lt_of_le_of_lt bot_le h))).symm⟩
    rw [ha, hs]
    rw [hs] at h
    have h0 : 0 < s := by exact_mod_cast h
    have hq : 0 < Real.sqrt s := Real.sqrt_pos.mpr h0
    refine ⟨a * (Real.sqrt s)⁻¹, ?_⟩
    have e : Ideal.sqrt ((s : ℝ) : EReal) = ((Real.sqrt s : ℝ) : EReal) := by
      show (if s < 0 then ⊥ else ((Real.sqrt s : ℝ) : EReal)) = _
      rw [if_neg (not_lt_of_gt h0)]
    rw [e, Ideal.div, if_neg (by exact_mod_cast ne_of_gt hq)]
    push_cast
    rfl

/-- Where no row of `u` is zero, the unit vectors are real. -/
theorem unit_real (u : Vec Ideal Cert.KernelIdeal.S24x7168 .f32) (h : ∀ r : Fin 24, 0 < ∑ l : Fin 7168, u (ix2 r l) * u (ix2 r l)) (r : Fin 24) (k : Fin 7168) :
    ∃ a : ℝ, Cert.KernelIdeal.Gen.k0_pay1 u (ix2 r k) = (a : EReal) := by
  rw [unit_apply]
  exact div_length_real (fun l => u (ix2 r l)) (h r) k

end Cert.Units

end
-- ==== Proof.Results.lean ====
/-
   The claim about results: from equal arguments, where `x` is finite and no row of `u` is zero, the kernel and the
   reference return the same two arrays.
-/
module

public import proofs.«01_k».proof.Defs
public import proofs.«01_k».proof.Proof.KernelArrays
public import proofs.«01_k».proof.Proof.RefArrays
public import proofs.«01_k».proof.Proof.ReflEq
public import proofs.«01_k».proof.Proof.Units

@[expose] public section

set_option maxRecDepth 16384

noncomputable section

namespace Cert.Results

open Idealize.ShloMosaic Idealize.SL.Sem

/-- The reflected activations of the two programs agree. -/
theorem zb_agree (m : (ℓ : Loc Cert.KernelIdeal.nD Cert.KernelIdeal.τ Cert.KernelIdeal.sig) → Buf (Elt Ideal) ℓ)
    (hpre : Cert.Pre_KernelIdeal_finite_and_nonzero_rows m) (c : Dev Cert.KernelIdeal.nD) :
    Cert.KernelIdeal.Steps.zbK (Cert.KernelIdeal.Run.argU m c) (Cert.KernelIdeal.Run.rowsX m c)
      = Cert.ReferenceIdeal.Solve.zbR (Cert.KernelIdeal.Run.argU m c) (Cert.KernelIdeal.Run.rowsX m c) := by
  have hu := Units.unit_real (Cert.KernelIdeal.Run.argU m c) fun r => Units.pre_u (hpre c).2 r
  have hx : ∀ (i : Fin 256) (k : Fin 7168), ∃ a : ℝ, Cert.KernelIdeal.Run.rowsX m c (ix2 i k) = (a : EReal) :=
    fun i k => Units.pre_x (hpre c).1 _
  choose U hU using hu
  choose X hX using hx
  exact Refl.zb_eq _ _ hU hX

theorem algebraic : Cert.algebraic_KernelIdeal_ReferenceIdeal_pre_finite_and_nonzero_rows := by
  intro m g m' g' hpre hag
  refine ⟨fun c => fun j : Cert.KernelIdeal.S256x18432.Idx => Product.product (Cert.KernelIdeal.Run.zb m c)
      (Cert.KernelIdeal.Run.argB m c) (Cert.KernelIdeal.Run.argS m c) (Cert.KernelIdeal.Run.argZ m c) (j 0) (j 1),
    fun c => Cert.KernelIdeal.Run.zb m c, ?_, ?_⟩
  · refine (θ_run _ _ _).mono (fun r h c => ?_) (Cert.KernelIdeal.Run.run_blocks m g)
    obtain ⟨h0, h1, hk⟩ := h c
    exact ⟨h0.trans (Cert.KernelIdeal.Run.final5 m c), h1.trans (Cert.KernelIdeal.Run.final6 m c), hk⟩
  · refine (θ_run _ _ _).mono (fun r h c => ?_) (Cert.ReferenceIdeal.Value.run_blocks m' g')
    obtain ⟨h0, h1, hk⟩ := h c
    obtain ⟨e0, e1, e2, e3, e4⟩ := hag c
    have a0 : Cert.ReferenceIdeal.Run.argX m' c = Cert.KernelIdeal.Run.argX m c := e0
    have a1 : Cert.ReferenceIdeal.Run.argU m' c = Cert.KernelIdeal.Run.argU m c := e1
    have a2 : Cert.ReferenceIdeal.Run.argB m' c = Cert.KernelIdeal.Run.argB m c := e2
    have a3 : Cert.ReferenceIdeal.Run.argS m' c = Cert.KernelIdeal.Run.argS m c := e3
    have a4 : Cert.ReferenceIdeal.Run.argZ m' c = Cert.KernelIdeal.Run.argZ m c := e4
    have ez : Cert.ReferenceIdeal.Run.zb m' c = Cert.KernelIdeal.Run.zb m c := by
      rw [Cert.ReferenceIdeal.Run.zb, Cert.ReferenceIdeal.Run.rowsX, a0, a1]
      exact (zb_agree m hpre c).symm
    have f5 := Cert.ReferenceIdeal.Run.final5 m' c
    have f6 := Cert.ReferenceIdeal.Run.final6 m' c
    rw [ez] at f6
    rw [ez, a2, a3, a4] at f5
    exact ⟨h0.trans f5, h1.trans f6, hk⟩

end Cert.Results

end
-- ==== Proof.lean ====
/-
   The certificate: every execution of the programs ends with the arguments unchanged, and the kernel returns what the
   reference returns.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.BitsFrame
public import proofs.«01_k».proof.Proof.Results
public import Idealize.ShloMosaic.Adequacy
public import Idealize.ShloMosaic.Init
public import proofs.«01_k».proof.Proof.Gen.ReferenceIdeal.Value

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Units.preFacts,
    fun m ρ _ => Cert.Kernel.Run.frame m ρ,
    fun m ρ _ => Cert.KernelIdeal.Run.frame m ρ,
    fun m ρ _ => Cert.KernelIdeal.Run.frame m ρ,
    fun m ρ _ => Cert.ReferenceIdeal.Gen.frame m ρ,
    fun m ρ _ => Cert.ReferenceIdeal.Gen.frame m ρ,
    trivial,
    Cert.Results.algebraic⟩

end Cert.Proof

end
